-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "qscale" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8x4096x8x96 : Shape := ⟨4, ![8, 4096, 8, 96]⟩
abbrev S8x4096x8x64 : Shape := ⟨4, ![8, 4096, 8, 64]⟩
abbrev S8x256x8x96 : Shape := ⟨4, ![8, 256, 8, 96]⟩
abbrev S8x256x8x64 : Shape := ⟨4, ![8, 256, 8, 64]⟩
abbrev S_ : Shape := ⟨0, ![]⟩

class Facts : Prop where
  bcast_S_S8x4096x8x96 : S_.BroadcastsInDim S8x4096x8x96 (![] : Fin 0 → Fin S8x4096x8x96.rank)
  reducesTo_S8x4096x8x96_S_d0_1_2_3 : S8x4096x8x96.ReducesTo [0, 1, 2, 3] S_
  h_S_ : 0 < S_.numel
  bcast_S_S8x256x8x96 : S_.BroadcastsInDim S8x256x8x96 (![] : Fin 0 → Fin S8x256x8x96.rank)
  reducesTo_S8x256x8x96_S_d0_1_2_3 : S8x256x8x96.ReducesTo [0, 1, 2, 3] S_

variable [Facts]

def fn_part1 {F : FTy → Type} [FloatOps F] (main_v13 : IVec S_ 1) (main_v16 : IVec S8x256x8x96 1) : IVec S_ 1 :=
  let main_c_5 : IVec S_ 1 := constantI S_ 1 1#1
  let main_v17 : IVec S_ 1 := (fun x v => Host.reduce IntOp.andi x v reducesTo_S8x256x8x96_S_d0_1_2_3 h_S_) main_v16 main_c_5
  let main_v18 : IVec S_ 1 := andi main_v13 main_v17
  main_v18

def fn {F : FTy → Type} [FloatOps F] (main_arg0 : FVec F S8x4096x8x96 .f32) (main_arg1 : FVec F S8x4096x8x96 .f32) (main_arg2 : FVec F S8x4096x8x64 .f32) (main_arg3 : FVec F S8x256x8x96 .f32) (main_arg4 : FVec F S8x256x8x96 .f32) (main_arg5 : FVec F S8x256x8x64 .f32) : IVec S_ 1 :=
  let main_v0 : FVec F S8x4096x8x96 .f32 := Host.absf main_arg0
  let main_cst : FVec F S_ .f32 := constant S_ .f32 0x7F800000#32
  let main_v1 : FVec F S8x4096x8x96 .f32 := broadcastInDim S8x4096x8x96 ![] bcast_S_S8x4096x8x96 main_cst
  let main_v2 : IVec S8x4096x8x96 1 := cmpf .olt main_v0 main_v1
  let main_c : IVec S_ 1 := constantI S_ 1 1#1
  let main_v3 : IVec S_ 1 := (fun x v => Host.reduce IntOp.andi x v reducesTo_S8x4096x8x96_S_d0_1_2_3 h_S_) main_v2 main_c
  let main_v4 : FVec F S8x4096x8x96 .f32 := Host.absf main_arg1
  let main_cst_0 : FVec F S_ .f32 := constant S_ .f32 0x7F800000#32
  let main_v5 : FVec F S8x4096x8x96 .f32 := broadcastInDim S8x4096x8x96 ![] bcast_S_S8x4096x8x96 main_cst_0
  let main_v6 : IVec S8x4096x8x96 1 := cmpf .olt main_v4 main_v5
  let main_c_1 : IVec S_ 1 := constantI S_ 1 1#1
  let main_v7 : IVec S_ 1 := (fun x v => Host.reduce IntOp.andi x v reducesTo_S8x4096x8x96_S_d0_1_2_3 h_S_) main_v6 main_c_1
  let main_v8 : IVec S_ 1 := andi main_v3 main_v7
  let main_v9 : FVec F S8x256x8x96 .f32 := Host.absf main_arg3
  let main_cst_2 : FVec F S_ .f32 := constant S_ .f32 0x7F800000#32
  let main_v10 : FVec F S8x256x8x96 .f32 := broadcastInDim S8x256x8x96 ![] bcast_S_S8x256x8x96 main_cst_2
  let main_v11 : IVec S8x256x8x96 1 := cmpf .olt main_v9 main_v10
  let main_c_3 : IVec S_ 1 := constantI S_ 1 1#1
  let main_v12 : IVec S_ 1 := (fun x v => Host.reduce IntOp.andi x v reducesTo_S8x256x8x96_S_d0_1_2_3 h_S_) main_v11 main_c_3
  let main_v13 : IVec S_ 1 := andi main_v8 main_v12
  let main_v14 : FVec F S8x256x8x96 .f32 := Host.absf main_arg4
  let main_cst_4 : FVec F S_ .f32 := constant S_ .f32 0x7F800000#32
  let main_v15 : FVec F S8x256x8x96 .f32 := broadcastInDim S8x256x8x96 ![] bcast_S_S8x256x8x96 main_cst_4
  let main_v16 : IVec S8x256x8x96 1 := cmpf .olt main_v14 main_v15
  fn_part1 (F := F) main_v13 main_v16
-- ==== Pre_finite5.lean ====
abbrev S8x4096x8x64 : Shape := ⟨4, ![8, 4096, 8, 64]⟩
abbrev S8x4096x2x64 : Shape := ⟨4, ![8, 4096, 2, 64]⟩
abbrev S8x256x8x64 : Shape := ⟨4, ![8, 256, 8, 64]⟩
abbrev S8x256x2x64 : Shape := ⟨4, ![8, 256, 2, 64]⟩
abbrev S8 : Shape := ⟨1, ![8]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_
  bcast_S_S8x256x2x64 : S_.BroadcastsInDim S8x256x2x64 (![] : Fin 0 → Fin S8x256x2x64.rank)
  reducesTo_S8x256x2x64_S_d0_1_2_3 : S8x256x2x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S8x4096x8x64 .f32) (main_arg1 : FVec F S8x4096x2x64 .f32) (main_arg2 : FVec F S8x4096x2x64 .f32) (main_arg3 : FVec F S8x256x8x64 .f32) (main_arg4 : FVec F S8x256x2x64 .f32) (main_arg5 : FVec F S8x256x2x64 .f32) (main_arg6 : FVec F S8 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x2x64 .f32 := Host.absf main_arg1
  let main_cst_0 : FVec F S_ .f32 := constant S_ .f32 0x7F800000#32
  let main_v5 : FVec F S8x4096x2x64 .f32 := broadcastInDim S8x4096x2x64 ![] bcast_S_S8x4096x2x64 main_cst_0
  let main_v6 : IVec S8x4096x2x64 1 := cmpf .olt main_v4 main_v5
  let main_c_1 : IVec S_ 1 := constantI S_ 1 1#1
  let main_v7 : IVec S_ 1 := (fun x v => Host.reduce IntOp.andi x v reducesTo_S8x4096x2x64_S_d0_1_2_3 h_S_) main_v6 main_c_1
  let main_v8 : IVec S_ 1 := andi main_v3 main_v7
  let main_v9 : FVec F S8x256x2x64 .f32 := Host.absf main_arg4
  let main_cst_2 : FVec F S_ .f32 := constant S_ .f32 0x7F800000#32
  let main_v10 : FVec F S8x256x2x64 .f32 := broadcastInDim S8x256x2x64 ![] bcast_S_S8x256x2x64 main_cst_2
  let main_v11 : IVec S8x256x2x64 1 := cmpf .olt main_v9 main_v10
  let main_c_3 : IVec S_ 1 := constantI S_ 1 1#1
  let main_v12 : IVec S_ 1 := (fun x v => Host.reduce IntOp.andi x v reducesTo_S8x256x2x64_S_d0_1_2_3 h_S_) main_v11 main_c_3
  let main_v13 : IVec S_ 1 := andi main_v8 main_v12
  let main_v14 : FVec F S8 .f32 := Host.absf main_arg6
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S8x4096x8x96 : Shape := ⟨4, ![8, 4096, 8, 96]⟩
abbrev S8x4096x8x64 : Shape := ⟨4, ![8, 4096, 8, 64]⟩
abbrev S8x256x8x96 : Shape := ⟨4, ![8, 256, 8, 96]⟩
abbrev S8x256x8x64 : Shape := ⟨4, ![8, 256, 8, 64]⟩
abbrev S8x4352x8x96 : Shape := ⟨4, ![8, 4352, 8, 96]⟩
abbrev S8x8x4352x96 : Shape := ⟨4, ![8, 8, 4352, 96]⟩
abbrev S_ : Shape := ⟨0, ![]⟩
abbrev S8x8x4352x128 : Shape := ⟨4, ![8, 8, 4352, 128]⟩
abbrev S8x4352x8x64 : Shape := ⟨4, ![8, 4352, 8, 64]⟩
abbrev S8x8x4352x64 : Shape := ⟨4, ![8, 8, 4352, 64]⟩
abbrev S8x4x2x4352x64 : Shape := ⟨5, ![8, 4, 2, 4352, 64]⟩
abbrev S8x4x1x4352x64 : Shape := ⟨5, ![8, 4, 1, 4352, 64]⟩
abbrev S8x4x4352x64 : Shape := ⟨4, ![8, 4, 4352, 64]⟩
abbrev S8x4x4352x128 : Shape := ⟨4, ![8, 4, 4352, 128]⟩
abbrev S8x4x1x4352x128 : Shape := ⟨5, ![8, 4, 1, 4352, 128]⟩
abbrev S8x4x2x4352x128 : Shape := ⟨5, ![8, 4, 2, 4352, 128]⟩
abbrev S8x4352x512 : Shape := ⟨3, ![8, 4352, 512]⟩
abbrev S1x2x256x128 : Shape := ⟨4, ![1, 2, 256, 128]⟩
abbrev S1x2x4352x128 : Shape := ⟨4, ![1, 2, 4352, 128]⟩
abbrev S1x256x128 : Shape := ⟨3, ![1, 256, 128]⟩
abbrev S1x1x256x128 : Shape := ⟨4, ![1, 1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x1x4352x128 : Shape := ⟨4, ![1, 1, 4352, 128]⟩
abbrev S4352x128 : Shape := ⟨2, ![4352, 128]⟩
abbrev S256x4352 : Shape := ⟨2, ![256, 4352]⟩

abbrev nBuf : Space → Nat
  | .hbm => 36
  | .vmem => 8
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x256x8x96, .f32⟩
  | .hbm, ⟨4, _⟩ => ⟨S8x256x8x96, .f32⟩
  | .hbm, ⟨5, _⟩ => ⟨S8x256x8x64, .f32⟩
  | .hbm, ⟨6, _⟩ => ⟨S8x4352x8x96, .f32⟩
  | .hbm, ⟨7, _⟩ => ⟨S8x8x4352x96, .f32⟩
  | .hbm, ⟨8, _⟩ => ⟨S_, .i32⟩
  | .hbm, ⟨9, _⟩ => ⟨S_, .f32⟩
  | .hbm, ⟨10, _⟩ => ⟨S8x8x4352x128, .f32⟩
  | .hbm, ⟨11, _⟩ => ⟨S8x4352x8x96, .f32⟩
  | .hbm, ⟨12, _⟩ => ⟨S8x8x4352x96, .f32⟩
  | .hbm, ⟨13, _⟩ => ⟨S_, .i32⟩
  | .hbm, ⟨14, _⟩ => ⟨S_, .f32⟩
  | .hbm, ⟨15, _⟩ => ⟨S8x8x4352x128, .f32⟩
  | .hbm, ⟨16, _⟩ => ⟨S8x8x4352x128, .bf16⟩
  | .hbm, ⟨17, _⟩ => ⟨S8x4352x8x64, .f32⟩
  | .hbm, ⟨18, _⟩ => ⟨S8x8x4352x64, .f32⟩
  | .hbm, ⟨19, _⟩ => ⟨S8x4x2x4352x64, .f32⟩
  | .hbm, ⟨20, _⟩ => ⟨S8x4x1x4352x64, .f32⟩
  | .hbm, ⟨21, _⟩ => ⟨S8x4x4352x64, .f32⟩
  | .hbm, ⟨22, _⟩ => ⟨S_, .f32⟩
  | .hbm, ⟨23, _⟩ => ⟨S8x4x4352x64, .f32⟩
  | .hbm, ⟨24, _⟩ => ⟨S8x4x1x4352x64, .f32⟩
  | .hbm, ⟨25, _⟩ => ⟨S8x4x4352x64, .f32⟩
  | .hbm, ⟨26, _⟩ => ⟨S8x4x4352x128, .f32⟩
  | .hbm, ⟨27, _⟩ => ⟨S8x4x1x4352x64, .f32⟩
  | .hbm, ⟨28, _⟩ => ⟨S8x4x4352x64, .f32⟩
  | .hbm, ⟨29, _⟩ => ⟨S8x4x4352x128, .f32⟩
  | .hbm, ⟨30, _⟩ => ⟨S8x4x1x4352x128, .f32⟩
  | .hbm, ⟨31, _⟩ => ⟨S8x4x1x4352x128, .f32⟩
  | .hbm, ⟨32, _⟩ => ⟨S8x4x2x4352x128, .f32⟩
  | .hbm, ⟨33, _⟩ => ⟨S8x8x4352x128, .f32⟩
  | .hbm, ⟨34, _⟩ => ⟨S8x8x4352x128, .bf16⟩
  | .hbm, ⟨35, _⟩ => ⟨S8x4352x512, .bf16⟩
  | .local _ .vmem, ⟨0, _⟩ => ⟨S1x2x256x128, .f32⟩
  | .local _ .vmem, ⟨1, _⟩ => ⟨S1x2x256x128, .f32⟩
  | .local _ .vmem, ⟨2, _⟩ => ⟨S1x2x4352x128, .bf16⟩
  | .local _ .vmem, ⟨3, _⟩ => ⟨S1x2x4352x128, .bf16⟩
  | .local _ .vmem, ⟨4, _⟩ => ⟨S1x2x4352x128, .bf16⟩
  | .local _ .vmem, ⟨5, _⟩ => ⟨S1x2x4352x128, .bf16⟩
  | .local _ .vmem, ⟨6, _⟩ => ⟨S1x256x128, .bf16⟩
  | .local _ .vmem, ⟨7, _⟩ => ⟨S1x256x128, .bf16⟩
  | _, _ => ⟨S8x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 17], ![false, false, false]⟩

def k0_cond1 (i : grid0.Coords) : BitVec 1 :=
  let arg2 : BitVec 32 := BitVec.ofNat 32 (i 2).val
  let c1_i32 : BitVec 32 := 1#32
  let v0 : BitVec 1 := Scalar.cmpi .slt arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c1_i32_0 : BitVec 32 := 1#32
  let v3 : BitVec 1 := Scalar.cmpi .sge arg2 c1_i32_0
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![arg0.toNat, arg1.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "qscale" => some (((Real.sqrt 96)⁻¹ * (Real.log 2)⁻¹ : ℝ) : EReal)
  | _ => none
-- ==== ReferenceIdeal.lean ====
abbrev S8x4096x8x96 : Shape := ⟨4, ![8, 4096, 8, 96]⟩
abbrev S8x4096x8x64 : Shape := ⟨4, ![8, 4096, 8, 64]⟩
abbrev S8x256x8x96 : Shape := ⟨4, ![8, 256, 8, 96]⟩
abbrev S8x256x8x64 : Shape := ⟨4, ![8, 256, 8, 64]⟩
abbrev S8x4352x8x96 : Shape := ⟨4, ![8, 4352, 8, 96]⟩
abbrev S8x4352x8x64 : Shape := ⟨4, ![8, 4352, 8, 64]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩
abbrev S8x8x256x256 : Shape := ⟨4, ![8, 8, 256, 256]⟩
abbrev S8x8x256 : Shape := ⟨3, ![8, 8, 256]⟩
abbrev S8x8x256x1 : Shape := ⟨4, ![8, 8, 256, 1]⟩
abbrev S8x8x64x256 : Shape := ⟨4, ![8, 8, 64, 256]⟩
abbrev S8x256x512 : Shape := ⟨3, ![8, 256, 512]⟩
abbrev S8x4352x512 : Shape := ⟨3, ![8, 4352, 512]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x8x96, .f32⟩
  | .hbm, ⟨1, _⟩ => ⟨S8x4096x8x96, .f32⟩
  | .hbm, ⟨2, _⟩ => ⟨S8x4096x8x64, .f32⟩
  | .hbm, ⟨3, _⟩ => ⟨S8x256x8x96, .f32⟩
  | .hbm, ⟨4, _⟩ => ⟨S8x256x8x96, .f32⟩
  | .hbm, ⟨5, _⟩ => ⟨S8x256x8x64, .f32⟩
  | .hbm, ⟨6, _⟩ => ⟨S8x4352x8x96, .f32⟩
  | .hbm, ⟨7, _⟩ => ⟨S8x4352x8x64, .f32⟩
  | .hbm, ⟨8, _⟩ => ⟨S8x8x4096x4352, .f32⟩
  | .hbm, ⟨9, _⟩ => ⟨S_, .f32⟩
  | .hbm, ⟨10, _⟩ => ⟨S_, .f32⟩
  | .hbm, ⟨11, _⟩ => ⟨S8x8x4096x4352, .f32⟩
  | .hbm, ⟨12, _⟩ => ⟨S8x8x4096x4352, .f32⟩
  | .hbm, ⟨13, _⟩ => ⟨S_, .f32⟩
  | .hbm, ⟨14, _⟩ => ⟨S8x8x4096, .f32⟩
  | .hbm, ⟨15, _⟩ => ⟨S_, .f32⟩
  | .hbm, ⟨16, _⟩ => ⟨S8x8x4096, .f32⟩
  | .hbm, ⟨17, _⟩ => ⟨S8x8x4096, .f32⟩
  | .hbm, ⟨18, _⟩ => ⟨S8x8x4096x1, .f32⟩
  | .hbm, ⟨19, _⟩ => ⟨S8x8x4096x4352, .f32⟩
  | .hbm, ⟨20, _⟩ => ⟨S8x8x4096x4352, .f32⟩
  | .hbm, ⟨21, _⟩ => ⟨S8x8x4096x4352, .f32⟩
  | .hbm, ⟨22, _⟩ => ⟨S_, .f32⟩
  | .hbm, ⟨23, _⟩ => ⟨S8x8x4096, .f32⟩
  | .hbm, ⟨24, _⟩ => ⟨S8x8x4096x1, .f32⟩
  | .hbm, ⟨25, _⟩ => ⟨S8x8x4096x4352, .f32⟩
  | .hbm, ⟨26, _⟩ => ⟨S8x8x4096x4352, .f32⟩
  | .hbm, ⟨27, _⟩ => ⟨S8x8x64x4096, .f32⟩
  | .hbm, ⟨28, _⟩ => ⟨S8x4096x8x64, .f32⟩
  | .hbm, ⟨29, _⟩ => ⟨S8x4096x512, .f32⟩
  | .hbm, ⟨30, _⟩ => ⟨S8x8x256x256, .f32⟩
  | .hbm, ⟨31, _⟩ => ⟨S_, .f32⟩
  | .hbm, ⟨32, _⟩ => ⟨S_, .f32⟩
  | .hbm, ⟨33, _⟩ => ⟨S8x8x256x256, .f32⟩
  | .hbm, ⟨34, _⟩ => ⟨S8x8x256x256, .f32⟩
  | .hbm, ⟨35, _⟩ => ⟨S_, .f32⟩
  | .hbm, ⟨36, _⟩ => ⟨S8x8x256, .f32⟩
  | .hbm, ⟨37, _⟩ => ⟨S_, .f32⟩
  | .hbm, ⟨38, _⟩ => ⟨S8x8x256, .f32⟩
  | .hbm, ⟨39, _⟩ => ⟨S8x8x256, .f32⟩
  | .hbm, ⟨40, _⟩ => ⟨S8x8x256x1, .f32⟩
  | .hbm, ⟨41, _⟩ => ⟨S8x8x256x256, .f32⟩
  | .hbm, ⟨42, _⟩ => ⟨S8x8x256x256, .f32⟩
  | .hbm, ⟨43, _⟩ => ⟨S8x8x256x256, .f32⟩
  | .hbm, ⟨44, _⟩ => ⟨S_, .f32⟩
  | .hbm, ⟨45, _⟩ => ⟨S8x8x256, .f32⟩
  | .hbm, ⟨46, _⟩ => ⟨S8x8x256x1, .f32⟩
  | .hbm, ⟨47, _⟩ => ⟨S8x8x256x256, .f32⟩
  | .hbm, ⟨48, _⟩ => ⟨S8x8x256x256, .f32⟩
  | .hbm, ⟨49, _⟩ => ⟨S8x8x64x256, .f32⟩
  | .hbm, ⟨50, _⟩ => ⟨S8x256x8x64, .f32⟩
  | .hbm, ⟨51, _⟩ => ⟨S8x256x512, .f32⟩
  | .hbm, ⟨52, _⟩ => ⟨S8x4352x512, .f32⟩
  | .hbm, ⟨53, _⟩ => ⟨S8x4352x512, .bf16⟩
  | _, _ => ⟨S8x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x256x1024 : Shape := ⟨3, ![8, 256, 1024]⟩
abbrev S8x4096x512 : Shape := ⟨3, ![8, 4096, 512]⟩
abbrev S8x256x512 : Shape := ⟨3, ![8, 256, 512]⟩
abbrev S8x6x1024 : Shape := ⟨3, ![8, 6, 1024]⟩
abbrev S6x1024 : Shape := ⟨2, ![6, 1024]⟩
abbrev S1024x1024 : Shape := ⟨2, ![1024, 1024]⟩
abbrev S1024 : Shape := ⟨1, ![1024]⟩
abbrev S1024x2048 : Shape := ⟨2, ![1024, 2048]⟩
abbrev S8x4352x1024 : Shape := ⟨3, ![8, 4352, 1024]⟩
abbrev S8x4352x512 : Shape := ⟨3, ![8, 4352, 512]⟩
abbrev S1x6x1024 : Shape := ⟨3, ![1, 6, 1024]⟩
abbrev S9x6x1024 : Shape := ⟨3, ![9, 6, 1024]⟩
abbrev S1x1024 : Shape := ⟨2, ![1, 1024]⟩
abbrev S8x4352x2048 : Shape := ⟨3, ![8, 4352, 2048]⟩
abbrev S16x34816x128 : Shape := ⟨3, ![16, 34816, 128]⟩
abbrev S1x256x1024 : Shape := ⟨3, ![1, 256, 1024]⟩
abbrev S1x256x512 : Shape := ⟨3, ![1, 256, 512]⟩
abbrev S1x256x2048 : Shape := ⟨3, ![1, 256, 2048]⟩
abbrev S16x256x128 : Shape := ⟨3, ![16, 256, 128]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩
abbrev S1x256x128 : Shape := ⟨3, ![1, 256, 128]⟩

abbrev nBuf : Space → Nat
  | .hbm => 24
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x4096x512, .f32⟩
  | .hbm, ⟨3, _⟩ => ⟨S8x4096x512, .f32⟩
  | .hbm, ⟨4, _⟩ => ⟨S8x256x512, .f32⟩
  | .hbm, ⟨5, _⟩ => ⟨S8x256x512, .f32⟩
  | .hbm, ⟨6, _⟩ => ⟨S8x6x1024, .f32⟩
  | .hbm, ⟨7, _⟩ => ⟨S6x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S8x4352x1024, .f32⟩
  | .hbm, ⟨12, _⟩ => ⟨S8x4352x512, .f32⟩
  | .hbm, ⟨13, _⟩ => ⟨S8x4352x512, .bf16⟩
  | .hbm, ⟨14, _⟩ => ⟨S8x4352x512, .f32⟩
  | .hbm, ⟨15, _⟩ => ⟨S8x4352x512, .bf16⟩
  | .hbm, ⟨16, _⟩ => ⟨S1x6x1024, .f32⟩
  | .hbm, ⟨17, _⟩ => ⟨S9x6x1024, .f32⟩
  | .hbm, ⟨18, _⟩ => ⟨S1024x1024, .bf16⟩
  | .hbm, ⟨19, _⟩ => ⟨S1x1024, .f32⟩
  | .hbm, ⟨20, _⟩ => ⟨S1024x2048, .bf16⟩
  | .hbm, ⟨21, _⟩ => ⟨S8x4352x1024, .f32⟩
  | .hbm, ⟨22, _⟩ => ⟨S8x4352x2048, .bf16⟩
  | .hbm, ⟨23, _⟩ => ⟨S16x34816x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1024x1024, .bf16⟩
  | .local _ .vmem, ⟨7, _⟩ => ⟨S1x6x1024, .f32⟩
  | .local _ .vmem, ⟨8, _⟩ => ⟨S1x6x1024, .f32⟩
  | .local _ .vmem, ⟨9, _⟩ => ⟨S1x1024, .f32⟩
  | .local _ .vmem, ⟨10, _⟩ => ⟨S1024x2048, .bf16⟩
  | .local _ .vmem, ⟨11, _⟩ => ⟨S1x256x1024, .f32⟩
  | .local _ .vmem, ⟨12, _⟩ => ⟨S1x256x1024, .f32⟩
  | .local _ .vmem, ⟨13, _⟩ => ⟨S1x256x2048, .bf16⟩
  | .local _ .vmem, ⟨14, _⟩ => ⟨S1x256x2048, .bf16⟩
  | .local _ .vmem, ⟨15, _⟩ => ⟨S16x256x128, .bf16⟩
  | .local _ .vmem, ⟨16, _⟩ => ⟨S16x256x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c8_i32 : BitVec 32 := 8#32
  let v2 : BitVec 32 := Scalar.select v1 c8_i32 arg0
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x4096x1024 : Shape := ⟨3, ![8, 4096, 1024]⟩
abbrev S8x256x1024 : Shape := ⟨3, ![8, 256, 1024]⟩
abbrev S8x4096x512 : Shape := ⟨3, ![8, 4096, 512]⟩
abbrev S8x256x512 : Shape := ⟨3, ![8, 256, 512]⟩
abbrev S8x6x1024 : Shape := ⟨3, ![8, 6, 1024]⟩
abbrev S6x1024 : Shape := ⟨2, ![6, 1024]⟩
abbrev S1024x1024 : Shape := ⟨2, ![1024, 1024]⟩
abbrev S1024 : Shape := ⟨1, ![1024]⟩
abbrev S1024x2048 : Shape := ⟨2, ![1024, 2048]⟩
abbrev S8x4352x1024 : Shape := ⟨3, ![8, 4352, 1024]⟩
abbrev S1x1024 : Shape := ⟨2, ![1, 1024]⟩
abbrev S8x1x1024 : Shape := ⟨3, ![8, 1, 1024]⟩
abbrev S8x1024 : Shape := ⟨2, ![8, 1024]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S8x4352x2048 : Shape := ⟨3, ![8, 4352, 2048]⟩
abbrev S34816x16x128 : Shape := ⟨3, ![34816, 16, 128]⟩
abbrev S16x34816x128 : Shape := ⟨3, ![16, 34816, 128]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x4096x512, .f32⟩
  | .hbm, ⟨3, _⟩ => ⟨S8x4096x512, .f32⟩
  | .hbm, ⟨4, _⟩ => ⟨S8x256x512, .f32⟩
  | .hbm, ⟨5, _⟩ => ⟨S8x256x512, .f32⟩
  | .hbm, ⟨6, _⟩ => ⟨S8x6x1024, .f32⟩
  | .hbm, ⟨7, _⟩ => ⟨S6x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S8x256x1024, .f32⟩
  | .hbm, ⟨12, _⟩ => ⟨S8x4096x1024, .f32⟩
  | .hbm, ⟨13, _⟩ => ⟨S8x4352x1024, .f32⟩
  | .hbm, ⟨14, _⟩ => ⟨S8x4352x1024, .f32⟩
  | .hbm, ⟨15, _⟩ => ⟨S1x1024, .f32⟩
  | .hbm, ⟨16, _⟩ => ⟨S1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x256x1024, .f32⟩
  | .hbm, ⟨21, _⟩ => ⟨S8x4096x1024, .f32⟩
  | .hbm, ⟨22, _⟩ => ⟨S8x4352x1024, .f32⟩
  | .hbm, ⟨23, _⟩ => ⟨S8x4352x1024, .f32⟩
  | .hbm, ⟨24, _⟩ => ⟨S8x4352x1024, .f32⟩
  | .hbm, ⟨25, _⟩ => ⟨S8x4352x1024, .f32⟩
  | .hbm, ⟨26, _⟩ => ⟨S8x4352x1024, .f32⟩
  | .hbm, ⟨27, _⟩ => ⟨S_, .f32⟩
  | .hbm, ⟨28, _⟩ => ⟨S8x4352, .f32⟩
  | .hbm, ⟨29, _⟩ => ⟨S8x4352x1, .f32⟩
  | .hbm, ⟨30, _⟩ => ⟨S_, .f32⟩
  | .hbm, ⟨31, _⟩ => ⟨S8x4352x1, .f32⟩
  | .hbm, ⟨32, _⟩ => ⟨S8x4352x1, .f32⟩
  | .hbm, ⟨33, _⟩ => ⟨S_, .f32⟩
  | .hbm, ⟨34, _⟩ => ⟨S8x4352x1, .f32⟩
  | .hbm, ⟨35, _⟩ => ⟨S8x4352x1, .f32⟩
  | .hbm, ⟨36, _⟩ => ⟨S8x4352x1, .f32⟩
  | .hbm, ⟨37, _⟩ => ⟨S8x4352x1024, .f32⟩
  | .hbm, ⟨38, _⟩ => ⟨S8x4352x1024, .f32⟩
  | .hbm, ⟨39, _⟩ => ⟨S1x1x1024, .f32⟩
  | .hbm, ⟨40, _⟩ => ⟨S8x4352x1024, .f32⟩
  | .hbm, ⟨41, _⟩ => ⟨S8x4352x1024, .f32⟩
  | .hbm, ⟨42, _⟩ => ⟨S1x1024, .f32⟩
  | .hbm, ⟨43, _⟩ => ⟨S1024, .f32⟩
  | .hbm, ⟨44, _⟩ => ⟨S8x1x1024, .f32⟩
  | .hbm, ⟨45, _⟩ => ⟨S8x1024, .f32⟩
  | .hbm, ⟨46, _⟩ => ⟨S8x1x1024, .f32⟩
  | .hbm, ⟨47, _⟩ => ⟨S8x256x1024, .f32⟩
  | .hbm, ⟨48, _⟩ => ⟨S8x4096x1024, .f32⟩
  | .hbm, ⟨49, _⟩ => ⟨S8x4352x1024, .f32⟩
  | .hbm, ⟨50, _⟩ => ⟨S_, .f32⟩
  | .hbm, ⟨51, _⟩ => ⟨S8x4352x1024, .f32⟩
  | .hbm, ⟨52, _⟩ => ⟨S8x4352x1024, .f32⟩
  | .hbm, ⟨53, _⟩ => ⟨S8x4352x1024, .f32⟩
  | .hbm, ⟨54, _⟩ => ⟨S1x1024, .f32⟩
  | .hbm, ⟨55, _⟩ => ⟨S1024, .f32⟩
  | .hbm, ⟨56, _⟩ => ⟨S8x1x1024, .f32⟩
  | .hbm, ⟨57, _⟩ => ⟨S8x1024, .f32⟩
  | .hbm, ⟨58, _⟩ => ⟨S8x1x1024, .f32⟩
  | .hbm, ⟨59, _⟩ => ⟨S8x256x1024, .f32⟩
  | .hbm, ⟨60, _⟩ => ⟨S8x4096x1024, .f32⟩
  | .hbm, ⟨61, _⟩ => ⟨S8x4352x1024, .f32⟩
  | .hbm, ⟨62, _⟩ => ⟨S8x4352x1024, .f32⟩
  | .hbm, ⟨63, _⟩ => ⟨S8x4352x2048, .f32⟩
  | .hbm, ⟨64, _⟩ => ⟨S34816x16x128, .f32⟩
  | .hbm, ⟨65, _⟩ => ⟨S16x34816x128, .f32⟩
  | .hbm, ⟨66, _⟩ => ⟨S8x4352x1024, .bf16⟩
  | .hbm, ⟨67, _⟩ => ⟨S8x4352x1024, .f32⟩
  | .hbm, ⟨68, _⟩ => ⟨S8x4352x1024, .f32⟩
  | .hbm, ⟨69, _⟩ => ⟨S8x4352x1024, .bf16⟩
  | .hbm, ⟨70, _⟩ => ⟨S8x4352x2048, .bf16⟩
  | .hbm, ⟨71, _⟩ => ⟨S16x34816x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Kernel3.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S1x1024x6144, .f32⟩
  | .hbm, ⟨21, _⟩ => ⟨S1024x6144, .f32⟩
  | .hbm, ⟨22, _⟩ => ⟨S16x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S16x6144, .f32⟩
  | .hbm, ⟨27, _⟩ => ⟨S16x6144, .f32⟩
  | .hbm, ⟨28, _⟩ => ⟨S1x16x6144, .f32⟩
  | .hbm, ⟨29, _⟩ => ⟨S1x16x6144, .f32⟩
  | .hbm, ⟨30, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel4.lean ====
abbrev S8x4096x1024 : Shape := ⟨3, ![8, 4096, 1024]⟩
abbrev S9x6x1024 : Shape := ⟨3, ![9, 6, 1024]⟩
abbrev S16384x1024 : Shape := ⟨2, ![16384, 1024]⟩
abbrev S1x1x1024 : Shape := ⟨3, ![1, 1, 1024]⟩
abbrev S1024 : Shape := ⟨1, ![1024]⟩
abbrev S8x1024 : Shape := ⟨2, ![8, 1024]⟩
abbrev S8x1x1024 : Shape := ⟨3, ![8, 1, 1024]⟩
abbrev S8x2x1024 : Shape := ⟨3, ![8, 2, 1024]⟩
abbrev S32768x1024 : Shape := ⟨2, ![32768, 1024]⟩
abbrev S8x2x1x1024 : Shape := ⟨4, ![8, 2, 1, 1024]⟩
abbrev S256x1024 : Shape := ⟨2, ![256, 1024]⟩
abbrev S1x1x1x1024 : Shape := ⟨4, ![1, 1, 1, 1024]⟩
abbrev S1x1024 : Shape := ⟨2, ![1, 1024]⟩

abbrev nBuf : Space → Nat
  | .hbm => 15
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S9x6x1024, .f32⟩
  | .hbm, ⟨2, _⟩ => ⟨S16384x1024, .f32⟩
  | .hbm, ⟨3, _⟩ => ⟨S1x1x1024, .f32⟩
  | .hbm, ⟨4, _⟩ => ⟨S1024, .f32⟩
  | .hbm, ⟨5, _⟩ => ⟨S8x1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x1x1024, .f32⟩
  | .hbm, ⟨10, _⟩ => ⟨S8x2x1024, .f32⟩
  | .hbm, ⟨11, _⟩ => ⟨S32768x1024, .f32⟩
  | .hbm, ⟨12, _⟩ => ⟨S16384x1024, .f32⟩
  | .hbm, ⟨13, _⟩ => ⟨S8x2x1x1024, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c64_i32 : BitVec 32 := 64#32
  let v0 : BitVec 32 := Scalar.addi arg0 c64_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32_4 : BitVec 32 := 64#32
  let v18 : BitVec 32 := Scalar.addi arg0 c64_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 1 := Scalar.cmpi .slt v28 c0_i32_11
  let c0_i32_12 : BitVec 32 := 0#32
  let c1_i32_13 : BitVec 32 := 1#32
  let v30 : BitVec 32 := Scalar.select v29 c0_i32_12 c1_i32_13
  let c0_i32_14 : BitVec 32 := 0#32
  let c0_i32_15 : BitVec 32 := 0#32
  let c0_i32_16 : BitVec 32 := 0#32
  ![v17.toNat, v30.toNat, c0_i32_14.toNat, c0_i32_15.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x4096x1024 : Shape := ⟨3, ![8, 4096, 1024]⟩
abbrev S9x6x1024 : Shape := ⟨3, ![9, 6, 1024]⟩
abbrev S16384x1024 : Shape := ⟨2, ![16384, 1024]⟩
abbrev S4x1x1024 : Shape := ⟨3, ![4, 1, 1024]⟩
abbrev S4x1024 : Shape := ⟨2, ![4, 1024]⟩
abbrev S4x4096x1024 : Shape := ⟨3, ![4, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S9x6x1024, .f32⟩
  | .hbm, ⟨2, _⟩ => ⟨S16384x1024, .f32⟩
  | .hbm, ⟨3, _⟩ => ⟨S4x1x1024, .f32⟩
  | .hbm, ⟨4, _⟩ => ⟨S4x1024, .f32⟩
  | .hbm, ⟨5, _⟩ => ⟨S4x1x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S16384x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8x4096x8x64 : Shape := ⟨4, ![8, 4096, 8, 64]⟩
abbrev S8x4096x2x64 : Shape := ⟨4, ![8, 4096, 2, 64]⟩
abbrev S8x256x8x64 : Shape := ⟨4, ![8, 256, 8, 64]⟩
abbrev S8x256x2x64 : Shape := ⟨4, ![8, 256, 2, 64]⟩
abbrev S8 : Shape := ⟨1, ![8]⟩
abbrev S8x4352x8x64 : Shape := ⟨4, ![8, 4352, 8, 64]⟩
abbrev S8x8x4352x64 : Shape := ⟨4, ![8, 8, 4352, 64]⟩
abbrev S_ : Shape := ⟨0, ![]⟩
abbrev S8x8x4352x128 : Shape := ⟨4, ![8, 8, 4352, 128]⟩
abbrev S8x4352x2x64 : Shape := ⟨4, ![8, 4352, 2, 64]⟩
abbrev S8x2x4352x64 : Shape := ⟨4, ![8, 2, 4352, 64]⟩
abbrev S8x2x4352x128 : Shape := ⟨4, ![8, 2, 4352, 128]⟩
abbrev S8x4096x512 : Shape := ⟨3, ![8, 4096, 512]⟩
abbrev S1x4x128x128 : Shape := ⟨4, ![1, 4, 128, 128]⟩
abbrev S1x1x4352x128 : Shape := ⟨4, ![1, 1, 4352, 128]⟩
abbrev S1x128x256 : Shape := ⟨3, ![1, 128, 256]⟩
abbrev S4x128x128 : Shape := ⟨3, ![4, 128, 128]⟩
abbrev S512x128 : Shape := ⟨2, ![512, 128]⟩
abbrev S512x1 : Shape := ⟨2, ![512, 1]⟩
abbrev S1 : Shape := ⟨1, ![1]⟩
abbrev S1x1x256x128 : Shape := ⟨4, ![1, 1, 256, 128]⟩
abbrev S256x128 : Shape := ⟨2, ![256, 128]⟩
abbrev S512x256 : Shape := ⟨2, ![512, 256]⟩
abbrev S1x1x384x128 : Shape := ⟨4, ![1, 1, 384, 128]⟩
abbrev S384x128 : Shape := ⟨2, ![384, 128]⟩
abbrev S512x384 : Shape := ⟨2, ![512, 384]⟩
abbrev S1x384 : Shape := ⟨2, ![1, 384]⟩
abbrev S512 : Shape := ⟨1, ![512]⟩
abbrev S128x256 : Shape := ⟨2, ![128, 256]⟩
abbrev S128x128 : Shape := ⟨2, ![128, 128]⟩
abbrev S128x384 : Shape := ⟨2, ![128, 384]⟩
abbrev S128x1 : Shape := ⟨2, ![128, 1]⟩

abbrev nBuf : Space → Nat
  | .hbm => 33
  | .vmem => 10
  | .smem => 1
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x256x8x64, .f32⟩
  | .hbm, ⟨4, _⟩ => ⟨S8x256x2x64, .f32⟩
  | .hbm, ⟨5, _⟩ => ⟨S8x256x2x64, .f32⟩
  | .hbm, ⟨6, _⟩ => ⟨S8, .f32⟩
  | .hbm, ⟨7, _⟩ => ⟨S8x4352x8x64, .f32⟩
  | .hbm, ⟨8, _⟩ => ⟨S8x8x4352x64, .f32⟩
  | .hbm, ⟨9, _⟩ => ⟨S_, .f32⟩
  | .hbm, ⟨10, _⟩ => ⟨S8x8x4352x64, .f32⟩
  | .hbm, ⟨11, _⟩ => ⟨S8x8x4352x64, .f32⟩
  | .hbm, ⟨12, _⟩ => ⟨S_, .i32⟩
  | .hbm, ⟨13, _⟩ => ⟨S_, .f32⟩
  | .hbm, ⟨14, _⟩ => ⟨S8x8x4352x128, .f32⟩
  | .hbm, ⟨15, _⟩ => ⟨S8x8x4352x128, .bf16⟩
  | .hbm, ⟨16, _⟩ => ⟨S8x4352x2x64, .f32⟩
  | .hbm, ⟨17, _⟩ => ⟨S8x2x4352x64, .f32⟩
  | .hbm, ⟨18, _⟩ => ⟨S8x4352x2x64, .f32⟩
  | .hbm, ⟨19, _⟩ => ⟨S8x2x4352x64, .f32⟩
  | .hbm, ⟨20, _⟩ => ⟨S_, .i32⟩
  | .hbm, ⟨21, _⟩ => ⟨S_, .f32⟩
  | .hbm, ⟨22, _⟩ => ⟨S8x2x4352x128, .f32⟩
  | .hbm, ⟨23, _⟩ => ⟨S8x2x4352x128, .bf16⟩
  | .hbm, ⟨24, _⟩ => ⟨S_, .i32⟩
  | .hbm, ⟨25, _⟩ => ⟨S_, .f32⟩
  | .hbm, ⟨26, _⟩ => ⟨S8x2x4352x128, .f32⟩
  | .hbm, ⟨27, _⟩ => ⟨S8x2x4352x128, .bf16⟩
  | .hbm, ⟨28, _⟩ => ⟨S_, .i32⟩
  | .hbm, ⟨29, _⟩ => ⟨S_, .f32⟩
  | .hbm, ⟨30, _⟩ => ⟨S8x2x4352x128, .f32⟩
  | .hbm, ⟨31, _⟩ => ⟨S8x2x4352x128, .bf16⟩
  | .hbm, ⟨32, _⟩ => ⟨S8x4096x512, .bf16⟩
  | .local _ .vmem, ⟨0, _⟩ => ⟨S1x4x128x128, .bf16⟩
  | .local _ .vmem, ⟨1, _⟩ => ⟨S1x4x128x128, .bf16⟩
  | .local _ .vmem, ⟨2, _⟩ => ⟨S1x1x4352x128, .bf16⟩
  | .local _ .vmem, ⟨3, _⟩ => ⟨S1x1x4352x128, .bf16⟩
  | .local _ .vmem, ⟨4, _⟩ => ⟨S1x1x4352x128, .bf16⟩
  | .local _ .vmem, ⟨5, _⟩ => ⟨S1x1x4352x128, .bf16⟩
  | .local _ .vmem, ⟨6, _⟩ => ⟨S1x1x4352x128, .bf16⟩
  | .local _ .vmem, ⟨7, _⟩ => ⟨S1x1x4352x128, .bf16⟩
  | .local _ .vmem, ⟨8, _⟩ => ⟨S1x128x256, .bf16⟩
  | .local _ .vmem, ⟨9, _⟩ => ⟨S1x128x256, .bf16⟩
  | .local _ .smem, ⟨0, _⟩ => ⟨S8, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_call2_v0 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_call3_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 32], ![false, false, false]⟩

def k0_off1 (i : grid0.Coords) (c0_i32_8 : BitVec 32) : Fin 1 → Nat :=
  let arg1 : BitVec 32 := BitVec.ofNat 32 (i 1).val
  let c4_i32 : BitVec 32 := 4#32
  let v32 : BitVec 32 := Scalar.muli arg1 c4_i32
  let v33 : BitVec 32 := Scalar.addi v32 c0_i32_8
  let v34 : Index := Scalar.indexCast v33
  ![v34.toNat]
def k0_mult1 (i : grid0.Coords) : BitVec 32 :=
  let c3968_i32 : BitVec 32 := 3968#32
  let c256_i32 : BitVec 32 := 256#32
  let arg2 : BitVec 32 := BitVec.ofNat 32 (i 2).val
  let c2_i32 : BitVec 32 := 2#32
  let v0 : BitVec 32 := Scalar.addi arg2 c2_i32
  let c128_i32_38 : BitVec 32 := 128#32
  let v134 : BitVec 32 := Scalar.muli v0 c128_i32_38
  let c128_i32_39 : BitVec 32 := 128#32
  let v135 : BitVec 32 := Scalar.subi v134 c128_i32_39
  let v136 : BitVec 32 := Scalar.maxsi c256_i32 v135
  let v137 : BitVec 32 := Scalar.minsi c3968_i32 v136
  v137
def k0_off2 (i : grid0.Coords) : Fin 4 → Nat :=
  let c0_45 : Index := 0#32
  let c0_46 : Index := 0#32
  let c3968_i32 : BitVec 32 := 3968#32
  let c256_i32 : BitVec 32 := 256#32
  let arg2 : BitVec 32 := BitVec.ofNat 32 (i 2).val
  let c2_i32 : BitVec 32 := 2#32
  let v0 : BitVec 32 := Scalar.addi arg2 c2_i32
  let c128_i32_38 : BitVec 32 := 128#32
  let v134 : BitVec 32 := Scalar.muli v0 c128_i32_38
  let c128_i32_39 : BitVec 32 := 128#32
  let v135 : BitVec 32 := Scalar.subi v134 c128_i32_39
  let v136 : BitVec 32 := Scalar.maxsi c256_i32 v135
  let v137 : BitVec 32 := Scalar.minsi c3968_i32 v136
  let v138 : BitVec 32 := v137
  let v142 : Index := Scalar.indexCast v138
  let c0_47 : Index := 0#32
  ![0, 0, v142.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![arg0.toNat, arg1.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4352x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S8x4096x8x64 : Shape := ⟨4, ![8, 4096, 8, 64]⟩
abbrev S8x4096x2x64 : Shape := ⟨4, ![8, 4096, 2, 64]⟩
abbrev S8x256x8x64 : Shape := ⟨4, ![8, 256, 8, 64]⟩
abbrev S8x256x2x64 : Shape := ⟨4, ![8, 256, 2, 64]⟩
abbrev S8 : Shape := ⟨1, ![8]⟩
abbrev S8x4096x2x4x64 : Shape := ⟨5, ![8, 4096, 2, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x2x256x4096x4 : Shape := ⟨5, ![8, 2, 256, 4096, 4]⟩
abbrev S8x2x4x4096x256 : Shape := ⟨5, ![8, 2, 4, 4096, 256]⟩
abbrev S8x2x4096x4096x4 : Shape := ⟨5, ![8, 2, 4096, 4096, 4]⟩
abbrev S8x2x4x4096x4096 : Shape := ⟨5, ![8, 2, 4, 4096, 4096]⟩
abbrev S2x4x1x1 : Shape := ⟨4, ![2, 4, 1, 1]⟩
abbrev S8x2x4x4096x1 : Shape := ⟨5, ![8, 2, 4, 4096, 1]⟩
abbrev S8x2x4x4096x4353 : Shape := ⟨5, ![8, 2, 4, 4096, 4353]⟩
abbrev S8x2x4x4096 : Shape := ⟨4, ![8, 2, 4, 4096]⟩
abbrev S8x2x64x4x4096 : Shape := ⟨5, ![8, 2, 64, 4, 4096]⟩
abbrev S8x4096x512 : Shape := ⟨3, ![8, 4096, 512]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x256x8x64, .f32⟩
  | .hbm, ⟨4, _⟩ => ⟨S8x256x2x64, .f32⟩
  | .hbm, ⟨5, _⟩ => ⟨S8x256x2x64, .f32⟩
  | .hbm, ⟨6, _⟩ => ⟨S8, .f32⟩
  | .hbm, ⟨7, _⟩ => ⟨S8x4096x2x4x64, .f32⟩
  | .hbm, ⟨8, _⟩ => ⟨S4096, .i32⟩
  | .hbm, ⟨9, _⟩ => ⟨S4096x1, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S8x2x256x4096x4, .f32⟩
  | .hbm, ⟨19, _⟩ => ⟨S8x2x4x4096x256, .f32⟩
  | .hbm, ⟨20, _⟩ => ⟨S_, .f32⟩
  | .hbm, ⟨21, _⟩ => ⟨S8x2x4x4096x256, .f32⟩
  | .hbm, ⟨22, _⟩ => ⟨S8x2x4x4096x256, .f32⟩
  | .hbm, ⟨23, _⟩ => ⟨S8x2x4096x4096x4, .f32⟩
  | .hbm, ⟨24, _⟩ => ⟨S8x2x4x4096x4096, .f32⟩
  | .hbm, ⟨25, _⟩ => ⟨S_, .f32⟩
  | .hbm, ⟨26, _⟩ => ⟨S8x2x4x4096x4096, .f32⟩
  | .hbm, ⟨27, _⟩ => ⟨S8x2x4x4096x4096, .f32⟩
  | .hbm, ⟨28, _⟩ => ⟨S_, .f32⟩
  | .hbm, ⟨29, _⟩ => ⟨S_, .f32⟩
  | .hbm, ⟨30, _⟩ => ⟨S8x2x4x4096x4096, .i1⟩
  | .hbm, ⟨31, _⟩ => ⟨S8x2x4x4096x4096, .f32⟩
  | .hbm, ⟨32, _⟩ => ⟨S8x2x4x4096x4096, .f32⟩
  | .hbm, ⟨33, _⟩ => ⟨S2x4x1x1, .f32⟩
  | .hbm, ⟨34, _⟩ => ⟨S8x2x4x4096x1, .f32⟩
  | .hbm, ⟨35, _⟩ => ⟨S8x2x4x4096x4353, .f32⟩
  | .hbm, ⟨36, _⟩ => ⟨S_, .f32⟩
  | .hbm, ⟨37, _⟩ => ⟨S8x2x4x4096, .f32⟩
  | .hbm, ⟨38, _⟩ => ⟨S_, .f32⟩
  | .hbm, ⟨39, _⟩ => ⟨S8x2x4x4096, .f32⟩
  | .hbm, ⟨40, _⟩ => ⟨S8x2x4x4096, .f32⟩
  | .hbm, ⟨41, _⟩ => ⟨S8x2x4x4096x1, .f32⟩
  | .hbm, ⟨42, _⟩ => ⟨S8x2x4x4096x4353, .f32⟩
  | .hbm, ⟨43, _⟩ => ⟨S8x2x4x4096x4353, .f32⟩
  | .hbm, ⟨44, _⟩ => ⟨S8x2x4x4096x4353, .f32⟩
  | .hbm, ⟨45, _⟩ => ⟨S_, .f32⟩
  | .hbm, ⟨46, _⟩ => ⟨S8x2x4x4096, .f32⟩
  | .hbm, ⟨47, _⟩ => ⟨S8x2x4x4096x1, .f32⟩
  | .hbm, ⟨48, _⟩ => ⟨S8x2x4x4096x4353, .f32⟩
  | .hbm, ⟨49, _⟩ => ⟨S8x2x4x4096x4353, .f32⟩
  | .hbm, ⟨50, _⟩ => ⟨S8x2x4x4096x256, .f32⟩
  | .hbm, ⟨51, _⟩ => ⟨S8x2x64x4x4096, .f32⟩
  | .hbm, ⟨52, _⟩ => ⟨S8x4096x2x4x64, .f32⟩
  | .hbm, ⟨53, _⟩ => ⟨S8x2x4x4096x4096, .f32⟩
  | .hbm, ⟨54, _⟩ => ⟨S8x2x64x4x4096, .f32⟩
  | .hbm, ⟨55, _⟩ => ⟨S8x4096x2x4x64, .f32⟩
  | .hbm, ⟨56, _⟩ => ⟨S8x4096x2x4x64, .f32⟩
  | .hbm, ⟨57, _⟩ => ⟨S8x4096x512, .f32⟩
  | .hbm, ⟨58, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.Operands.lean ====
/- The arrays the attention call stages, read at an index: queries and keys with their lanes padded by zeros,
   values with one head in the lower and one in the upper lanes. -/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.Mla

open Cert.KernelIdeal Cert.KernelIdeal.Gen

/-- Tokens in order: the context's rows first, the latent rows after. -/
def cat96 (C : FVec Ideal S8x256x8x96 .f32) (L : FVec Ideal S8x4096x8x96 .f32) (b : Fin 8) (t : Fin 4352) (h : Fin 8) (d : Fin 96) : EReal :=
  if ht : (t : ℕ) < 256 then C (ix4 b ⟨t, ht⟩ h d) else L (ix4 b ⟨t - 256, by omega⟩ h d)

/-- The same for values, sixty-four lanes wide. -/
def cat64 (C : FVec Ideal S8x256x8x64 .f32) (L : FVec Ideal S8x4096x8x64 .f32) (b : Fin 8) (t : Fin 4352) (h : Fin 8) (d : Fin 64) : EReal :=
  if ht : (t : ℕ) < 256 then C (ix4 b ⟨t, ht⟩ h d) else L (ix4 b ⟨t - 256, by omega⟩ h d)

/-- Queries or keys as the host lays them out: heads before tokens, lanes padded to 128 with zeros. -/
def padded (C : FVec Ideal S8x256x8x96 .f32) (L : FVec Ideal S8x4096x8x96 .f32) : FVec Ideal S8x8x4352x128 .f32 :=
  pad S8x8x4352x128 ![0, 0, 0, 0] ![0, 0, 0, 32] ![0, 0, 0, 0] (transpose S8x8x4352x96 [0, 2, 1, 3] (concatenate S8x4352x8x96 1 [⟨S8x256x8x96, C⟩, ⟨S8x4096x8x96, L⟩] concatenates_S8x256x8x96_S8x4096x8x96_S8x4352x8x96_d1) transposes_S8x4352x8x96_S8x8x4352x96_0_2_1_3) (sitofp .f32 (constantI S_ 32 0#32)) pads_S8x8x4352x96_S8x8x4352x128_000_000_000_0320 h_S_

theorem padded_at (C L) (b h : Fin 8) (t : Fin 4352) (d : Fin 128) :
    padded C L (ix4 b h t d) = if hd : (d : ℕ) < 96 then cat96 C L b t h ⟨d, hd⟩ else 0 := by
  pointwise [padded]
  by_cases hd : (d : ℕ) < 96
  · rw [dif_pos hd, dif_pos hd]; rfl
  · rw [dif_neg hd, dif_neg hd]
    show (((0#32 : BitVec 32).toInt : ℝ) : EReal) = 0
    simp

/-- The values by pairs of heads, before the pairs are spread over the lanes. -/
def pairs (C : FVec Ideal S8x256x8x64 .f32) (L : FVec Ideal S8x4096x8x64 .f32) : FVec Ideal S8x4x2x4352x64 .f32 :=
  shapeCast S8x4x2x4352x64 (transpose S8x8x4352x64 [0, 2, 1, 3] (concatenate S8x4352x8x64 1 [⟨S8x256x8x64, C⟩, ⟨S8x4096x8x64, L⟩] concatenates_S8x256x8x64_S8x4096x8x64_S8x4352x8x64_d1) transposes_S8x4352x8x64_S8x8x4352x64_0_2_1_3) shapeCasts_S8x8x4352x64_S8x4x2x4352x64

/-- The block of zeros beside each head's values. -/
def zeros : FVec Ideal S8x4x4352x64 .f32 := broadcastInDim S8x4x4352x64 ![] bcast_S_S8x4x4352x64 (constant S_ .f32 0x00000000#32)

/-- The values as the host lays them out: the even heads in the lower lanes, the odd ones in the upper. -/
def spread (P : FVec Ideal S8x4x2x4352x64 .f32) : FVec Ideal S8x8x4352x128 .f32 :=
  shapeCast S8x8x4352x128 (concatenate S8x4x2x4352x128 2
    [⟨S8x4x1x4352x128, broadcastInDim S8x4x1x4352x128 ![0, 1, 3, 4] bcast_S8x4x4352x128_S8x4x1x4352x128_0_1_3_4
        (concatenate S8x4x4352x128 3 [⟨S8x4x4352x64, shapeCast S8x4x4352x64 (extractStridedSlice S8x4x1x4352x64 ![0, 0, 0, 0, 0] P slices_S8x4x2x4352x64_S8x4x1x4352x64_0_0_0_0_0) shapeCasts_S8x4x1x4352x64_S8x4x4352x64⟩, ⟨S8x4x4352x64, zeros⟩] concatenates_S8x4x4352x64_S8x4x4352x64_S8x4x4352x128_d3)⟩,
     ⟨S8x4x1x4352x128, broadcastInDim S8x4x1x4352x128 ![0, 1, 3, 4] bcast_S8x4x4352x128_S8x4x1x4352x128_0_1_3_4
        (concatenate S8x4x4352x128 3 [⟨S8x4x4352x64, zeros⟩, ⟨S8x4x4352x64, shapeCast S8x4x4352x64 (extractStridedSlice S8x4x1x4352x64 ![0, 0, 1, 0, 0] P slices_S8x4x2x4352x64_S8x4x1x4352x64_0_0_1_0_0) shapeCasts_S8x4x1x4352x64_S8x4x4352x64⟩] concatenates_S8x4x4352x64_S8x4x4352x64_S8x4x4352x128_d3)⟩]
    concatenates_S8x4x1x4352x128_S8x4x1x4352x128_S8x4x2x4352x128_d2) shapeCasts_S8x4x2x4352x128_S8x8x4352x128

theorem spread_cases (P) (b h : Fin 8) (t : Fin 4352) (l : Fin 128) :
    spread P (ix4 b h t l) = if hh : (h : ℕ) % 2 < 1
      then if hl : (l : ℕ) < 64 then P (ix5 b ⟨h / 2, by omega⟩ 0 t ⟨l, hl⟩) else 0
      else if hl : (l : ℕ) < 64 then 0 else P (ix5 b ⟨h / 2, by omega⟩ 1 t ⟨l - 64, by omega⟩) := by
  pointwise [spread, zeros]

theorem spread_at (P) (b h : Fin 8) (t : Fin 4352) (l : Fin 128) :
    spread P (ix4 b h t l) = if (l : ℕ) / 64 = h % 2 then P (ix5 b ⟨h / 2, by omega⟩ ⟨h % 2, by omega⟩ t ⟨l % 64, by omega⟩) else 0 := by
  rw [spread_cases]
  by_cases hh : (h : ℕ) % 2 < 1
  · have e : (⟨(h : ℕ) % 2, by omega⟩ : Fin 2) = 0 := Fin.ext (by show (h : ℕ) % 2 = 0; omega)
    rw [e, dif_pos hh]
    by_cases hl : (l : ℕ) < 64
    · have e' : (⟨(l : ℕ) % 64, by omega⟩ : Fin 64) = ⟨l, hl⟩ := Fin.ext (by show (l : ℕ) % 64 = l; omega)
      rw [if_pos (by omega), e', dif_pos hl]
    · rw [if_neg (by omega), dif_neg hl]
  · have e : (⟨(h : ℕ) % 2, by omega⟩ : Fin 2) = 1 := Fin.ext (by show (h : ℕ) % 2 = 1; omega)
    rw [e, dif_neg hh]
    by_cases hl : (l : ℕ) < 64
    · rw [if_neg (by omega), dif_pos hl]
    · have e' : (⟨(l : ℕ) % 64, by omega⟩ : Fin 64) = ⟨l - 64, by omega⟩ := Fin.ext (by show (l : ℕ) % 64 = l - 64; omega)
      rw [if_pos (by omega), e', dif_neg hl]

theorem pairs_at (C L) (b : Fin 8) (p : Fin 4) (i : Fin 2) (t : Fin 4352) (d : Fin 64) :
    pairs C L (ix5 b p i t d) = cat64 C L b t ⟨2 * p + i, by omega⟩ d := by
  have e : (⟨2 * (p : ℕ) + i, by omega⟩ : Fin 8) = ⟨p * 2 + i, by omega⟩ := Fin.ext (by show 2 * (p : ℕ) + i = p * 2 + i; omega)
  rw [e]
  pointwise [pairs]
  rfl

theorem join_pairs {a a' b b' : FVec Ideal S8x4x1x4352x128 .f32} (ha : a = a') (hb : b = b') :
    concatenate S8x4x2x4352x128 2 [⟨S8x4x1x4352x128, a⟩, ⟨S8x4x1x4352x128, b⟩] concatenates_S8x4x1x4352x128_S8x4x1x4352x128_S8x4x2x4352x128_d2
      = concatenate S8x4x2x4352x128 2 [⟨S8x4x1x4352x128, a'⟩, ⟨S8x4x1x4352x128, b'⟩] concatenates_S8x4x1x4352x128_S8x4x1x4352x128_S8x4x2x4352x128_d2 := by
  subst ha hb; rfl

theorem join_lanes {a a' b b' : FVec Ideal S8x4x4352x64 .f32} (ha : a = a') (hb : b = b') :
    concatenate S8x4x4352x128 3 [⟨S8x4x4352x64, a⟩, ⟨S8x4x4352x64, b⟩] concatenates_S8x4x4352x64_S8x4x4352x64_S8x4x4352x128_d3
      = concatenate S8x4x4352x128 3 [⟨S8x4x4352x64, a'⟩, ⟨S8x4x4352x64, b'⟩] concatenates_S8x4x4352x64_S8x4x4352x64_S8x4x4352x128_d3 := by
  subst ha hb; rfl

variable (m : (ℓ : Loc nD τ sig) → Buf (Elt Ideal) ℓ)

theorem entry_q (c : Dev nD) : V m c main_v2 = padded (m ((c.tc : Thread nD τ).loc main_arg3)) (m ((c.tc : Thread nD τ).loc main_arg0)) := by
  unfold V
  simp only [List.flatten_cons, List.flatten_nil, List.cons_append, List.nil_append, List.append_nil]; after_results_simp; rfl

theorem entry_k (c : Dev nD) : V m c main_v6 = truncf .bf16 (padded (m ((c.tc : Thread nD τ).loc main_arg4)) (m ((c.tc : Thread nD τ).loc main_arg1))) bitsLt_bf16_f32 := by
  unfold V
  simp only [List.flatten_cons, List.flatten_nil, List.cons_append, List.nil_append, List.append_nil]; after_results_simp; rfl

theorem entry_v (c : Dev nD) : V m c main_v23 = truncf .bf16 (spread (pairs (m ((c.tc : Thread nD τ).loc main_arg5)) (m ((c.tc : Thread nD τ).loc main_arg2)))) bitsLt_bf16_f32 := by
  unfold V
  simp only [List.flatten_cons, List.flatten_nil, List.cons_append, List.nil_append, List.append_nil]; after_results_simp
  refine congrArg (fun x => truncf .bf16 (shapeCast S8x8x4352x128 x shapeCasts_S8x4x2x4352x128_S8x8x4352x128) bitsLt_bf16_f32) (join_pairs ?_ ?_)
  · after_results_simp
    refine congrArg (broadcastInDim S8x4x1x4352x128 ![0, 1, 3, 4] bcast_S8x4x4352x128_S8x4x1x4352x128_0_1_3_4) (join_lanes ?_ ?_)
    · after_results_simp; rfl
    · after_results_simp; rfl
  · after_results_simp
    refine congrArg (broadcastInDim S8x4x1x4352x128 ![0, 1, 3, 4] bcast_S8x4x4352x128_S8x4x1x4352x128_0_1_3_4) (join_lanes ?_ ?_)
    · after_results_simp; rfl
    · after_results_simp; rfl

theorem trunc_at {s : Shape} (x : FVec Ideal s .f32) (i : s.Idx) : (truncf .bf16 x bitsLt_bf16_f32 : FVec Ideal s .bf16) i = x i := rfl

theorem at_k (c : Dev nD) (i : S8x8x4352x128.Idx) : (V m c main_v6 : FVec Ideal S8x8x4352x128 .bf16) i = padded (m ((c.tc : Thread nD τ).loc main_arg4)) (m ((c.tc : Thread nD τ).loc main_arg1)) i := by
  rw [entry_k]; exact trunc_at _ _

theorem at_v (c : Dev nD) (i : S8x8x4352x128.Idx) : (V m c main_v23 : FVec Ideal S8x8x4352x128 .bf16) i = spread (pairs (m ((c.tc : Thread nD τ).loc main_arg5)) (m ((c.tc : Thread nD τ).loc main_arg2))) i := by
  rw [entry_v]; exact trunc_at _ _

end Cert.Mla

end

end
-- ==== Proof.Blocks.lean ====
/- The blocks each grid point of the attention call reads, in terms of the arrays it stages. -/
module

public import proofs.«01_k».proof.Proof.Operands
public import Idealize.ShloMosaic.Lib.Pipeline.ValueKit

@[expose] public section

set_option maxRecDepth 16384

noncomputable section

open Idealize.ShloMosaic Idealize.ShloMosaic.TcCoe Idealize.SL.Sem

namespace Cert.Mla

open Cert.KernelIdeal Cert.KernelIdeal.Gen

variable (m : (ℓ : Loc nD τ sig) → Buf (Elt Ideal) ℓ)

theorem idx : ∀ t : Fin cfg0.N, win0_0.index t = ![t.val / 68, t.val / 17 % 4, t.val % 17, 0] ∧ win0_1.index t = ![t.val / 68, t.val / 17 % 4, 0, 0] ∧ win0_2.index t = ![t.val / 68, t.val / 17 % 4, 0, 0] ∧ win0_3.index t = ![t.val / 68, t.val % 17, t.val / 17 % 4]  := (by decide +kernel : ∀ t : Fin grid0.N, _)

theorem lt_N (t : Fin cfg0.N) : t.val < 544 := lt_of_lt_of_eq t.isLt N_0

/-- Batch, pair of heads of a grid point. -/
abbrev pb (t : Fin cfg0.N) : Fin 8 := ⟨t.val / 68, by have := lt_N t; omega⟩
abbrev ph (t : Fin cfg0.N) : Fin 4 := ⟨t.val / 17 % 4, by omega⟩

theorem iblk_q (c : Dev nD) (t : Fin cfg0.N) (i : Fin 2) (r : Fin 256) (d : Fin 128) :
    (iblk m c 0 t (ix4 0 i r d) : EReal) = padded (m ((c.tc : Thread nD τ).loc main_arg3)) (m ((c.tc : Thread nD τ).loc main_arg0))
      (ix4 (pb t) ⟨2 * ph t + i, by omega⟩ ⟨t.val % 17 * 256 + r, by omega⟩ d) := by
  rw [← entry_q m c]
  blk_simp [iblk]
  blk_ext [idx t]

theorem iblk_k (c : Dev nD) (t : Fin cfg0.N) (i : Fin 2) (r : Fin 4352) (d : Fin 128) :
    (iblk m c 1 t (ix4 0 i r d) : EReal) = padded (m ((c.tc : Thread nD τ).loc main_arg4)) (m ((c.tc : Thread nD τ).loc main_arg1))
      (ix4 (pb t) ⟨2 * ph t + i, by omega⟩ r d) := by
  rw [← at_k m c]
  blk_simp [iblk]
  blk_ext [idx t]

theorem block_v (A : FVec Ideal S8x8x4352x128 .bf16) (t : Fin cfg0.N) (i : Fin 2) (r : Fin 4352) (l : Fin 128) :
    (((cfg0.win 2).blk t).view.read (Elt Ideal) A (ix4 0 i r l) : EReal) = A (ix4 (pb t) ⟨2 * ph t + i, by omega⟩ r l) := by
  blk_simp
  blk_ext [idx t]

theorem array_v (c : Dev nD) : (V m c (Pipeline.arrRef spec0 2) : FVec Ideal S8x8x4352x128 .bf16) = (V m c main_v23 : FVec Ideal S8x8x4352x128 .bf16) := rfl

theorem iblk_v (c : Dev nD) (t : Fin cfg0.N) (i : Fin 2) (r : Fin 4352) (l : Fin 128) :
    (iblk m c 2 t (ix4 0 i r l) : EReal) = spread (pairs (m ((c.tc : Thread nD τ).loc main_arg5)) (m ((c.tc : Thread nD τ).loc main_arg2)))
      (ix4 (pb t) ⟨2 * ph t + i, by omega⟩ r l) := by
  unfold iblk
  exact (block_v _ t i r l).trans ((congrFun (array_v m c) _).trans (at_v m c _))

end Cert.Mla

end

end
-- ==== Proof.Row.lean ====
/- One row of softmax attention over the extended reals: the form the kernel computes (base-two exponentials of
   logits whose scale also carries `1 / log 2`, one division by the row sum at the end) against the textbook form. -/
module

public import Idealize.ShloMosaic.PureOps.Ideal

@[expose] public section

set_option maxRecDepth 16384

noncomputable section

open Idealize.ShloMosaic

namespace Cert.Row

/-- The weight the kernel gives key `x`: two to the logit minus the row's greatest logit. -/
def kW {n : ℕ} (s : Fin n → EReal) (x : Fin n) : EReal :=
  FloatOps.exp2 (F := Ideal) (φ := .f32) (s x - Finset.fold max (Ideal.ofBits .f32 0xFF800000#32) s Finset.univ)

/-- The weight of the reference: the exponential of the logit minus the row's greatest logit. -/
def rW {n : ℕ} (s : Fin n → EReal) (x : Fin n) : EReal :=
  Ideal.exp (s x - max (Ideal.ofBits .f32 0xFF800000#32) (Finset.fold max (Ideal.ofBits .f32 0xFF800000#32) s Finset.univ))

/-- The kernel's row: the weighted values summed first, divided by the sum of the weights after. -/
def kOut {n : ℕ} (s : Fin n → EReal) (v : Fin n → EReal) : EReal :=
  (∑ x, kW s x * v x) * Ideal.div 1 (∑ x, kW s x)

/-- The reference's row: every weight divided by the sum of the weights, then the values summed. -/
def rOut {n : ℕ} (s : Fin n → EReal) (v : Fin n → EReal) : EReal :=
  ∑ x, v x * Ideal.div (rW s x) (0 + ∑ x, rW s x)

theorem negInf : Ideal.ofBits .f32 0xFF800000#32 = (⊥ : EReal) := by
  simp [Ideal.ofBits, Ideal.ieee]

theorem fold_max {n : ℕ} (hn : 0 < n) (f : Fin n → ℝ) :
    ∃ μ : ℝ, Finset.fold max (⊥ : EReal) (fun x => (f x : EReal)) Finset.univ = (μ : EReal)
      ∧ (∀ x, f x ≤ μ) ∧ ∃ x, f x = μ := by
  haveI : Nonempty (Fin n) := ⟨⟨0, hn⟩⟩
  obtain ⟨x, -, hx⟩ := Finset.exists_max_image (Finset.univ : Finset (Fin n)) f Finset.univ_nonempty
  refine ⟨f x, le_antisymm ?_ ?_, fun y => hx y (Finset.mem_univ y), x, rfl⟩
  · exact Finset.fold_max_le _ |>.2 ⟨bot_le, fun y _ => EReal.coe_le_coe_iff.2 (hx y (Finset.mem_univ y))⟩
  · exact Finset.le_fold_max _ |>.2 (Or.inr ⟨x, Finset.mem_univ x, le_rfl⟩)

theorem sum_coe {n : ℕ} (f : Fin n → ℝ) : (∑ x, (f x : EReal)) = ((∑ x, f x : ℝ) : EReal) := by
  induction n with
  | zero => simp
  | succ n ih => rw [Fin.sum_univ_succ, Fin.sum_univ_succ, ih, EReal.coe_add]

theorem sum_mul_coe {n : ℕ} (f : Fin n → EReal) (c : ℝ) (hc : 0 ≤ c) :
    (∑ x, f x) * (c : EReal) = ∑ x, f x * (c : EReal) := by
  induction n with
  | zero => simp
  | succ n ih =>
    rw [Fin.sum_univ_succ, Fin.sum_univ_succ,
      EReal.right_distrib_of_nonneg_of_ne_top (EReal.coe_nonneg.2 hc) (EReal.coe_ne_top c), ih]

/-- Both rows agree where the kernel's logits are the reference's divided by `log 2`, all of them real. -/
theorem kOut_eq_rOut {n : ℕ} (hn : 0 < n) (s s' : Fin n → EReal) (v : Fin n → EReal) (a : Fin n → ℝ)
    (hs : ∀ x, s x = (a x : EReal)) (hs' : ∀ x, s' x = ((a x * (Real.log 2)⁻¹ : ℝ) : EReal)) :
    kOut s' v = rOut s v := by
  have hlog : 0 < Real.log 2 := Real.log_pos (by norm_num)
  obtain ⟨μ, hμ, hle, x₀, hx₀⟩ := fold_max hn a
  obtain ⟨ν, hν, hle', x₁, hx₁⟩ := fold_max hn (fun x => a x * (Real.log 2)⁻¹)
  have hνμ : ν = μ * (Real.log 2)⁻¹ := by
    refine le_antisymm ?_ ?_
    · rw [← hx₁]; exact mul_le_mul_of_nonneg_right (hle x₁) (inv_nonneg.2 hlog.le)
    · rw [← hx₀]; exact hle' x₀
  have hk : ∀ x, kW s' x = ((Real.exp (a x - μ) : ℝ) : EReal) := by
    intro x
    have e : s' = fun x => ((a x * (Real.log 2)⁻¹ : ℝ) : EReal) := funext hs'
    unfold kW
    rw [negInf, e, hν, hνμ, ← EReal.coe_sub]
    show Ideal.exp2 _ = _
    rw [Ideal.exp2_coe]
    congr 1
    show (2 : ℝ) ^ (a x * (Real.log 2)⁻¹ - μ * (Real.log 2)⁻¹) = _
    rw [Real.rpow_def_of_pos (by norm_num : (0 : ℝ) < 2)]
    congr 1
    field_simp
  have hr : ∀ x, rW s x = ((Real.exp (a x - μ) : ℝ) : EReal) := by
    intro x
    have e : s = fun x => (a x : EReal) := funext hs
    unfold rW
    rw [negInf, e, hμ, max_eq_right bot_le, ← EReal.coe_sub, Ideal.exp_coe]
  have hL : 0 < ∑ x, Real.exp (a x - μ) := by
    refine Finset.sum_pos (fun x _ => Real.exp_pos _) ⟨x₀, Finset.mem_univ _⟩
  unfold kOut rOut
  simp only [hk, hr]
  rw [sum_coe, zero_add, Ideal.div_coe hL.ne', one_mul, sum_mul_coe _ _ (by positivity)]
  refine Finset.sum_congr rfl fun x _ => ?_
  rw [Ideal.div_coe hL.ne', mul_comm (v x), mul_assoc, mul_assoc, mul_comm (v x)]

/-- A row of zero values is zero, whatever the weights. -/
theorem kOut_zero {n : ℕ} (s v : Fin n → EReal) (hv : ∀ x, v x = 0) : kOut s v = 0 := by
  unfold kOut
  simp [hv]

/-- The kernel's padded, scaled contraction of finite queries and keys is the reference's divided by `log 2`. -/
theorem logits {D P : ℕ} (q k : Fin D → EReal) (q' k' : Fin (D + P) → EReal) (c c' r : ℝ)
    (hq : ∀ d, ∃ x : ℝ, q d = x) (hk : ∀ d, ∃ x : ℝ, k d = x)
    (hql : ∀ d, q' (Fin.castAdd P d) = q d) (hkl : ∀ d, k' (Fin.castAdd P d) = k d)
    (hkr : ∀ d, k' (Fin.natAdd D d) = 0) (hr : r ≠ 0) (hc : c = r⁻¹ * c') :
    ∃ a : ℝ, Ideal.div (∑ d, q d * k d) (r : EReal) = (a : EReal)
      ∧ (∑ d, q' d * (c : EReal) * k' d) = ((a * c' : ℝ) : EReal) := by
  choose qr hqr using hq
  choose kr hkr' using hk
  refine ⟨(∑ d, qr d * kr d) * r⁻¹, ?_, ?_⟩
  · simp only [hqr, hkr', ← EReal.coe_mul]
    rw [sum_coe, Ideal.div_coe hr, ← EReal.coe_mul, one_div]
  · rw [Fin.sum_univ_add]
    simp only [hql, hkl, hkr, hqr, hkr', mul_zero, Finset.sum_const_zero, add_zero, ← EReal.coe_mul]
    rw [sum_coe]
    congr 1
    rw [hc, Finset.sum_mul, Finset.sum_mul]
    exact Finset.sum_congr rfl fun d _ => by ring

end Cert.Row

end

end
-- ==== Proof.Heads.lean ====
/- One head's row of attention over the staged arrays, and the two heads of a grid point together. -/
module

public import proofs.«01_k».proof.Proof.Operands
public import proofs.«01_k».proof.Proof.Row

@[expose] public section

set_option maxRecDepth 16384

noncomputable section

open Idealize.ShloMosaic Idealize.ShloMosaic.TcCoe Idealize.SL.Sem Cert.Row

namespace Cert.Mla

open Cert.KernelIdeal Cert.KernelIdeal.Gen

/-- The logits of query `t` of head `h` against the first `n` tokens. -/
def logit (qc kc : FVec Ideal S8x256x8x96 .f32) (q k : FVec Ideal S8x4096x8x96 .f32) (n : ℕ) (hn : n ≤ 4352)
    (b : Fin 8) (t : Fin 4352) (h : Fin 8) (x : Fin n) : EReal :=
  Ideal.div (∑ d, cat96 qc q b t h d * cat96 kc k b ⟨x, by omega⟩ h d) ((Real.sqrt 96 : ℝ) : EReal)

/-- The attention of query `t` of head `h` over the first `n` tokens, at value lane `e`. -/
def att (qc kc : FVec Ideal S8x256x8x96 .f32) (vc : FVec Ideal S8x256x8x64 .f32) (q k : FVec Ideal S8x4096x8x96 .f32) (v : FVec Ideal S8x4096x8x64 .f32)
    (n : ℕ) (hn : n ≤ 4352) (b : Fin 8) (t : Fin 4352) (h : Fin 8) (e : Fin 64) : EReal :=
  rOut (logit qc kc q k n hn b t h) fun x => cat64 vc v b ⟨x, by omega⟩ h e

/-- The same from the staged arrays, as one of the two heads of a grid point computes it at lane `l`. -/
def part (Q K : FVec Ideal S8x8x4352x128 .f32) (W : FVec Ideal S8x8x4352x128 .f32) (n : ℕ) (hn : n ≤ 4352) (b : Fin 8) (h : Fin 8) (t : Fin 4352) (l : Fin 128) : EReal :=
  kOut (fun x : Fin n => ∑ d : Fin 128, Q (ix4 b h t d) * (Named.named κ "qscale" 0x3E16C740#32 : Ideal .f32) * K (ix4 b h ⟨x, by omega⟩ d))
    fun x => W (ix4 b h ⟨x, by omega⟩ l)

theorem scale : (Named.named κ "qscale" 0x3E16C740#32 : Ideal .f32) = (((Real.sqrt 96)⁻¹ * (Real.log 2)⁻¹ : ℝ) : EReal) := by
  simp [Named.named, κ]

theorem values_at (C L) (b h : Fin 8) (t : Fin 4352) (l : Fin 128) :
    spread (pairs C L) (ix4 b h t l) = if (l : ℕ) / 64 = h % 2 then cat64 C L b t h ⟨l % 64, by omega⟩ else 0 := by
  rw [spread_at]
  split
  · rw [pairs_at]
    congr 1
    exact Fin.ext (by show 2 * ((h : ℕ) / 2) + h % 2 = h; omega)
  · rfl

variable {qc kc : FVec Ideal S8x256x8x96 .f32} {vc : FVec Ideal S8x256x8x64 .f32} {q k : FVec Ideal S8x4096x8x96 .f32} {v : FVec Ideal S8x4096x8x64 .f32}

/-- Joined arrays are finite where both parts are. -/
theorem cat_real {C : FVec Ideal S8x256x8x96 .f32} {L : FVec Ideal S8x4096x8x96 .f32} (hC : ∀ i, ∃ r : ℝ, C i = r) (hL : ∀ i, ∃ r : ℝ, L i = r)
    (b : Fin 8) (t : Fin 4352) (h : Fin 8) (d : Fin 96) : ∃ r : ℝ, cat96 C L b t h d = r := by
  unfold cat96
  split
  · exact hC _
  · exact hL _

theorem part_other (Q K) (C L) (n : ℕ) (hn : n ≤ 4352) (b h : Fin 8) (t : Fin 4352) (l : Fin 128) (hl : ¬(l : ℕ) / 64 = h % 2) :
    part Q K (spread (pairs C L)) n hn b h t l = 0 :=
  kOut_zero _ _ fun x => by rw [values_at, if_neg hl]

theorem part_own (hqc : ∀ i, ∃ r : ℝ, qc i = r) (hq : ∀ i, ∃ r : ℝ, q i = r) (hkc : ∀ i, ∃ r : ℝ, kc i = r) (hk : ∀ i, ∃ r : ℝ, k i = r)
    (n : ℕ) (hn0 : 0 < n) (hn : n ≤ 4352) (b h : Fin 8) (t : Fin 4352) (l : Fin 128) (hl : (l : ℕ) / 64 = h % 2) :
    part (padded qc q) (padded kc k) (spread (pairs vc v)) n hn b h t l = att qc kc vc q k v n hn b t h ⟨l % 64, by omega⟩ := by
  have key : ∀ x : Fin n, ∃ a : ℝ, logit qc kc q k n hn b t h x = (a : EReal)
      ∧ (∑ d : Fin 128, padded qc q (ix4 b h t d) * (Named.named κ "qscale" 0x3E16C740#32 : Ideal .f32) * padded kc k (ix4 b h ⟨x, by omega⟩ d)) = ((a * (Real.log 2)⁻¹ : ℝ) : EReal) := by
    intro x
    rw [scale]
    refine logits (D := 96) (P := 32) (cat96 qc q b t h) (cat96 kc k b ⟨x, by omega⟩ h) (fun d => padded qc q (ix4 b h t d)) (fun d => padded kc k (ix4 b h ⟨x, by omega⟩ d)) _ _ _
      (cat_real hqc hq _ _ _) (cat_real hkc hk _ _ _) ?_ ?_ ?_ (Real.sqrt_ne_zero'.2 (by norm_num)) rfl
    · intro d; show padded qc q _ = _
      rw [padded_at]; exact dif_pos d.isLt
    · intro d; show padded kc k _ = _
      rw [padded_at]; exact dif_pos d.isLt
    · intro d; show padded kc k _ = _
      rw [padded_at, dif_neg (by show ¬ 96 + (d : ℕ) < 96; omega)]
  choose a ha ha' using key
  unfold part att
  rw [kOut_eq_rOut hn0 (logit qc kc q k n hn b t h) _ _ a ha ha']
  congr 1
  funext x
  rw [values_at, if_pos hl]

/-- The two heads of a pair together: lane `l` belongs to one of them. -/
theorem parts (hqc : ∀ i, ∃ r : ℝ, qc i = r) (hq : ∀ i, ∃ r : ℝ, q i = r) (hkc : ∀ i, ∃ r : ℝ, kc i = r) (hk : ∀ i, ∃ r : ℝ, k i = r)
    (n : ℕ) (hn0 : 0 < n) (hn : n ≤ 4352) (b : Fin 8) (p : Fin 4) (t : Fin 4352) (l : Fin 128) :
    part (padded qc q) (padded kc k) (spread (pairs vc v)) n hn b ⟨2 * p, by omega⟩ t l
      + part (padded qc q) (padded kc k) (spread (pairs vc v)) n hn b ⟨2 * p + 1, by omega⟩ t l
      = att qc kc vc q k v n hn b t ⟨(128 * p + l) / 64, by omega⟩ ⟨(128 * p + l) % 64, by omega⟩ := by
  have e2 : (⟨(128 * (p : ℕ) + l) % 64, by omega⟩ : Fin 64) = ⟨l % 64, by omega⟩ := Fin.ext (by show (128 * (p : ℕ) + l) % 64 = l % 64; omega)
  rw [e2]
  by_cases hl : (l : ℕ) < 64
  · have e : (⟨(128 * (p : ℕ) + l) / 64, by omega⟩ : Fin 8) = ⟨2 * p, by omega⟩ := Fin.ext (by show (128 * (p : ℕ) + l) / 64 = 2 * p; omega)
    rw [e, part_other _ _ _ _ _ _ _ ⟨2 * p + 1, by omega⟩ _ _ (by show ¬ (l : ℕ) / 64 = (2 * p + 1) % 2; omega),
      part_own hqc hq hkc hk n hn0 hn b ⟨2 * p, by omega⟩ t l (by show (l : ℕ) / 64 = (2 * p) % 2; omega), add_zero]
  · have e : (⟨(128 * (p : ℕ) + l) / 64, by omega⟩ : Fin 8) = ⟨2 * p + 1, by omega⟩ := Fin.ext (by show (128 * (p : ℕ) + l) / 64 = 2 * p + 1; omega)
    rw [e, part_other _ _ _ _ _ _ _ ⟨2 * p, by omega⟩ _ _ (by show ¬ (l : ℕ) / 64 = (2 * p) % 2; omega),
      part_own hqc hq hkc hk n hn0 hn b ⟨2 * p + 1, by omega⟩ t l (by show (l : ℕ) / 64 = (2 * p + 1) % 2; omega), zero_add]

end Cert.Mla

end

end
-- ==== Proof.Final.lean ====
/- The array the attention call writes. -/
module

public import proofs.«01_k».proof.Proof.Blocks
public import proofs.«01_k».proof.Proof.Heads

@[expose] public section

set_option maxRecDepth 16384

noncomputable section

open Idealize.ShloMosaic Idealize.ShloMosaic.TcCoe Idealize.SL.Sem Cert.Row

namespace Cert.Mla

open Cert.KernelIdeal Cert.KernelIdeal.Gen

/-- The result at batch `b`, token `t`, lane `f`: context queries attend to the context, latent queries to every token. -/
def Gat (q k : FVec Ideal S8x4096x8x96 .f32) (v : FVec Ideal S8x4096x8x64 .f32) (qc kc : FVec Ideal S8x256x8x96 .f32) (vc : FVec Ideal S8x256x8x64 .f32)
    (b : Fin 8) (t : Fin 4352) (f : Fin 512) : EReal :=
  if (t : ℕ) < 256 then att qc kc vc q k v 256 (by omega) b t ⟨f / 64, by omega⟩ ⟨f % 64, by omega⟩
  else att qc kc vc q k v 4352 (by omega) b t ⟨f / 64, by omega⟩ ⟨f % 64, by omega⟩

/-- The result as an array. -/
def G (q k : FVec Ideal S8x4096x8x96 .f32) (v : FVec Ideal S8x4096x8x64 .f32) (qc kc : FVec Ideal S8x256x8x96 .f32) (vc : FVec Ideal S8x256x8x64 .f32) :
    FVec Ideal S8x4352x512 .bf16 := fun i => Gat q k v qc kc vc (i 0) (i 1) (i 2)

/-- Every entry is a real number. -/
def AllReal {s : Shape} (x : FVec Ideal s .f32) : Prop := ∀ i, ∃ r : ℝ, x i = r

/-- One head's row from its blocks. -/
def one (q0 : Fin 128 → EReal) (n : ℕ) (k0 : Fin n → Fin 128 → EReal) (v0 : Fin n → EReal) : EReal :=
  kOut (fun x : Fin n => ∑ d : Fin 128, q0 d * (Named.named κ "qscale" 0x3E16C740#32 : Ideal .f32) * k0 x d) v0

theorem pay_A (q0 q1 : Vec Ideal S1x1x256x128 .f32) (k0 v0 k1 v1 : Vec Ideal S1x1x256x128 .bf16) (r : Fin 256) (l : Fin 128) :
    (k0_pay1 (k0_pay3 q0 k0 v0) (k0_pay4 q1 k1) v1 (ix3 0 r l) : EReal)
      = one (fun d => q0 (ix4 0 0 r d)) 256 (fun x d => k0 (ix4 0 0 x d)) (fun x => (v0 (ix4 0 0 x l) : EReal))
        + one (fun d => q1 (ix4 0 0 r d)) 256 (fun x d => k1 (ix4 0 0 x d)) (fun x => (v1 (ix4 0 0 x l) : EReal)) := by
  pointwise [k0_pay1, k0_pay3, k0_pay4]
  rfl

theorem pay_B (q0 q1 : Vec Ideal S1x1x256x128 .f32) (k0 v0 k1 v1 : Vec Ideal S1x1x4352x128 .bf16) (r : Fin 256) (l : Fin 128) :
    (k0_pay2 (k0_pay5 q0 k0 v0) (k0_pay6 q1 k1) v1 (ix3 0 r l) : EReal)
      = one (fun d => q0 (ix4 0 0 r d)) 4352 (fun x d => k0 (ix4 0 0 x d)) (fun x => (v0 (ix4 0 0 x l) : EReal))
        + one (fun d => q1 (ix4 0 0 r d)) 4352 (fun x d => k1 (ix4 0 0 x d)) (fun x => (v1 (ix4 0 0 x l) : EReal)) := by
  pointwise [k0_pay2, k0_pay5, k0_pay6]
  rfl

theorem ld_q0 (A : Vec Ideal S1x2x256x128 .f32) (r : Fin 256) (d : Fin 128) :
    View.ld A (Rect.unit ![0, 0, 0, 0] ![1, 1, 256, 128] inb_S1x2x256x128_S1x1x256x128_0_0_0_0) (ix4 0 0 r d) = A (ix4 0 0 r d) := by
  pointwise

theorem ld_q1 (A : Vec Ideal S1x2x256x128 .f32) (r : Fin 256) (d : Fin 128) :
    View.ld A (Rect.unit ![0, 1, 0, 0] ![1, 1, 256, 128] inb_S1x2x256x128_S1x1x256x128_0_1_0_0) (ix4 0 0 r d) = A (ix4 0 1 r d) := by
  pointwise

theorem ld_s0 (A : Vec Ideal S1x2x4352x128 .bf16) (r : Fin 256) (d : Fin 128) :
    View.ld A (Rect.unit ![0, 0, 0, 0] ![1, 1, 256, 128] inb_S1x2x4352x128_S1x1x256x128_0_0_0_0) (ix4 0 0 r d) = A (ix4 0 0 ⟨r, by omega⟩ d) := by
  pointwise

theorem ld_s1 (A : Vec Ideal S1x2x4352x128 .bf16) (r : Fin 256) (d : Fin 128) :
    View.ld A (Rect.unit ![0, 1, 0, 0] ![1, 1, 256, 128] inb_S1x2x4352x128_S1x1x256x128_0_1_0_0) (ix4 0 0 r d) = A (ix4 0 1 ⟨r, by omega⟩ d) := by
  pointwise

theorem ld_k0 (A : Vec Ideal S1x2x4352x128 .bf16) (r : Fin 4352) (d : Fin 128) :
    View.ld A (Rect.unit ![0, 0, 0, 0] ![1, 1, 4352, 128] inb_S1x2x4352x128_S1x1x4352x128_0_0_0_0) (ix4 0 0 r d) = A (ix4 0 0 r d) := by
  pointwise

theorem ld_k1 (A : Vec Ideal S1x2x4352x128 .bf16) (r : Fin 4352) (d : Fin 128) :
    View.ld A (Rect.unit ![0, 1, 0, 0] ![1, 1, 4352, 128] inb_S1x2x4352x128_S1x1x4352x128_0_1_0_0) (ix4 0 0 r d) = A (ix4 0 1 r d) := by
  pointwise

theorem one_eq (q0 : Fin 128 → EReal) (n : ℕ) (k0 : Fin n → Fin 128 → EReal) (v0 : Fin n → EReal) (Q K W : FVec Ideal S8x8x4352x128 .f32) (hn : n ≤ 4352)
    (b h : Fin 8) (t : Fin 4352) (l : Fin 128) (hq : ∀ d, q0 d = Q (ix4 b h t d)) (hk : ∀ x d, k0 x d = K (ix4 b h ⟨x, by omega⟩ d)) (hv : ∀ x, v0 x = W (ix4 b h ⟨x, by omega⟩ l)) :
    one q0 n k0 v0 = part Q K W n hn b h t l := by
  unfold one part
  obtain rfl : v0 = fun x : Fin n => W (ix4 b h ⟨x, by omega⟩ l) := funext hv
  simp only [hq, hk]

section
variable (q k : FVec Ideal S8x4096x8x96 .f32) (v : FVec Ideal S8x4096x8x64 .f32) (qc kc : FVec Ideal S8x256x8x96 .f32) (vc : FVec Ideal S8x256x8x64 .f32)

theorem gat_A (hqc : AllReal qc) (hq : AllReal q) (hkc : AllReal kc) (hk : AllReal k) (b : Fin 8) (p : Fin 4) (t : Fin 4352) (l : Fin 128) (ht : (t : ℕ) < 256) :
    (G q k v qc kc vc (ix3 b t ⟨128 * p + l, by omega⟩) : EReal)
      = part (padded qc q) (padded kc k) (spread (pairs vc v)) 256 (by omega) b ⟨2 * p + (0 : Fin 2), by show 2 * (p : ℕ) + 0 < 8; omega⟩ t l
        + part (padded qc q) (padded kc k) (spread (pairs vc v)) 256 (by omega) b ⟨2 * p + (1 : Fin 2), by show 2 * (p : ℕ) + 1 < 8; omega⟩ t l := by
  show Gat q k v qc kc vc b t ⟨128 * p + l, by omega⟩ = _
  rw [Gat, if_pos ht]
  exact (parts hqc hq hkc hk 256 (by omega) (by omega) b p t l).symm

theorem gat_B (hqc : AllReal qc) (hq : AllReal q) (hkc : AllReal kc) (hk : AllReal k) (b : Fin 8) (p : Fin 4) (t : Fin 4352) (l : Fin 128) (ht : ¬(t : ℕ) < 256) :
    (G q k v qc kc vc (ix3 b t ⟨128 * p + l, by omega⟩) : EReal)
      = part (padded qc q) (padded kc k) (spread (pairs vc v)) 4352 (by omega) b ⟨2 * p + (0 : Fin 2), by show 2 * (p : ℕ) + 0 < 8; omega⟩ t l
        + part (padded qc q) (padded kc k) (spread (pairs vc v)) 4352 (by omega) b ⟨2 * p + (1 : Fin 2), by show 2 * (p : ℕ) + 1 < 8; omega⟩ t l := by
  show Gat q k v qc kc vc b t ⟨128 * p + l, by omega⟩ = _
  rw [Gat, if_neg ht]
  exact (parts hqc hq hkc hk 4352 (by omega) (by omega) b p t l).symm

end

variable (m : (ℓ : Loc nD τ sig) → Buf (Elt Ideal) ℓ)

theorem final (c : Dev nD)
    (hqc : AllReal (m ((c.tc : Thread nD τ).loc main_arg3) : FVec Ideal S8x256x8x96 .f32))
    (hq : AllReal (m ((c.tc : Thread nD τ).loc main_arg0) : FVec Ideal S8x4096x8x96 .f32))
    (hkc : AllReal (m ((c.tc : Thread nD τ).loc main_arg4) : FVec Ideal S8x256x8x96 .f32))
    (hk : AllReal (m ((c.tc : Thread nD τ).loc main_arg1) : FVec Ideal S8x4096x8x96 .f32)) :
    (dats m 0 c).arrAt 3 cfg0.N = G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (dats m 0 c).arrAt_eq_of_covers 3 _ (by decide +kernel) fun t _ y => ?_
  blk_simp
  rw [after0_3]
  have em : ∀ (a : Fin 1) (r : Fin 256) (l : Fin 128), ((win0_3.blk t).view.emb (ix3 a r l) : S8x4352x512.Idx) = ix3 (pb t) ⟨t.val % 17 * 256 + r, by omega⟩ ⟨128 * (ph t : ℕ) + l, by omega⟩ := by
    intro a r l
    blk_ext [idx t]
  by_cases h0 : t.val % 17 = 0
  · rw [outsAt0_A m c t h0 (by omega)]
    frame_out
    idx_vars y
    obtain rfl : y0 = 0 := Subsingleton.elim _ _
    refine Eq.trans ?_ (congrArg (G _ _ _ _ _ _) (em 0 y1 y2)).symm
    refine (pay_A _ _ _ _ _ _ y1 y2).trans ?_
    refine Eq.trans ?_ (gat_A _ _ _ _ _ _ hqc hq hkc hk (pb t) (ph t) ⟨t.val % 17 * 256 + y1, by omega⟩ y2 (by show t.val % 17 * 256 + (y1 : ℕ) < 256; omega)).symm
    refine congrArg₂ (· + ·) ?_ ?_
    · exact one_eq _ _ _ _ _ _ _ _ _ _ _ _ (fun d => (ld_q0 _ y1 d).trans (iblk_q m c t 0 y1 d)) (fun x d => (ld_s0 _ x d).trans (iblk_k m c t 0 _ d))
        (fun x => (ld_s0 _ x y2).trans (iblk_v m c t 0 _ y2))
    · exact one_eq _ _ _ _ _ _ _ _ _ _ _ _ (fun d => (ld_q1 _ y1 d).trans (iblk_q m c t 1 y1 d)) (fun x d => (ld_s1 _ x d).trans (iblk_k m c t 1 _ d))
        (fun x => (ld_s1 _ x y2).trans (iblk_v m c t 1 _ y2))
  · rw [outsAt0_B m c t h0 (by omega)]
    frame_out
    idx_vars y
    obtain rfl : y0 = 0 := Subsingleton.elim _ _
    refine Eq.trans ?_ (congrArg (G _ _ _ _ _ _) (em 0 y1 y2)).symm
    refine (pay_B _ _ _ _ _ _ y1 y2).trans ?_
    refine Eq.trans ?_ (gat_B _ _ _ _ _ _ hqc hq hkc hk (pb t) (ph t) ⟨t.val % 17 * 256 + y1, by omega⟩ y2 (by show t.val % 17 * 256 + (y1 : ℕ) < 256 → False; omega)).symm
    refine congrArg₂ (· + ·) ?_ ?_
    · exact one_eq _ _ _ _ _ _ _ _ _ _ _ _ (fun d => (ld_q0 _ y1 d).trans (iblk_q m c t 0 y1 d)) (fun x d => (ld_k0 _ x d).trans (iblk_k m c t 0 _ d))
        (fun x => (ld_k0 _ x y2).trans (iblk_v m c t 0 _ y2))
    · exact one_eq _ _ _ _ _ _ _ _ _ _ _ _ (fun d => (ld_q1 _ y1 d).trans (iblk_q m c t 1 y1 d)) (fun x d => (ld_k1 _ x d).trans (iblk_k m c t 1 _ d))
        (fun x => (ld_k1 _ x y2).trans (iblk_v m c t 1 _ y2))

end Cert.Mla

end

end
-- ==== Proof.Ref.lean ====
/- The reference's result, entry by entry, in stages: scores, softmax, weighted values. -/
module

public import proofs.«01_k».proof.Proof.Gen.ReferenceIdeal.Run
public import Idealize.ShloMosaic.Lib.Pipeline.ValueKit
public import proofs.«01_k».proof.Proof.Row

@[expose] public section

set_option maxRecDepth 16384

noncomputable section

open Idealize.ShloMosaic Idealize.ShloMosaic.TcCoe Idealize.SL.Sem Cert.Row

namespace Cert.MlaRef

open Cert.ReferenceIdeal Cert.ReferenceIdeal.Gen

/-- The context's scores. -/
def scoresC (Q K : FVec Ideal S8x256x8x96 .f32) : FVec Ideal S8x8x256x256 .f32 :=
  Host.divf (Host.dotGeneral dot_S8x256x8x96_S8x256x8x96_S8x8x256x256_3_3_1_1_02_02 none Q K) (broadcastInDim S8x8x256x256 ![] bcast_S_S8x8x256x256 (Host.sqrt (constant S_ .f32 0x42C00000#32)))

/-- Each row's greatest score, and the exponentials of the scores less that. -/
def maxC (X : FVec Ideal S8x8x256x256 .f32) : FVec Ideal S8x8x256 .f32 :=
  Host.reduce FloatOps.maximumf X (constant S_ .f32 0xFF800000#32) reducesTo_S8x8x256x256_S8x8x256_d3 h_S_

def subC (X : FVec Ideal S8x8x256x256 .f32) (M : FVec Ideal S8x8x256 .f32) : FVec Ideal S8x8x256x256 .f32 :=
  Host.exp (subf X (broadcastInDim S8x8x256x256 ![0, 1, 2, 3] bcast_S8x8x256x1_S8x8x256x256_0_1_2_3 (broadcastInDim S8x8x256x1 ![0, 1, 2] bcast_S8x8x256_S8x8x256x1_0_1_2 (maximumf (broadcastInDim S8x8x256 ![] bcast_S_S8x8x256 (constant S_ .f32 0xFF800000#32)) M))))

def expC (X : FVec Ideal S8x8x256x256 .f32) : FVec Ideal S8x8x256x256 .f32 := subC X (maxC X)

/-- Each exponential over its row's sum. -/
def normC (X : FVec Ideal S8x8x256x256 .f32) : FVec Ideal S8x8x256x256 .f32 :=
  Host.divf X (broadcastInDim S8x8x256x256 ![0, 1, 2, 3] bcast_S8x8x256x1_S8x8x256x256_0_1_2_3 (broadcastInDim S8x8x256x1 ![0, 1, 2] bcast_S8x8x256_S8x8x256x1_0_1_2 (Host.reduceAdd X (constant S_ .f32 0x00000000#32) reducesTo_S8x8x256x256_S8x8x256_d3 h_S_)))

/-- The weighted values, heads side by side. -/
def outC (V : FVec Ideal S8x256x8x64 .f32) (X : FVec Ideal S8x8x256x256 .f32) : FVec Ideal S8x256x512 .f32 :=
  shapeCast S8x256x512 (transpose S8x256x8x64 [0, 3, 1, 2] (Host.dotGeneral dot_S8x256x8x64_S8x8x256x256_S8x8x64x256_1_3_3_2_02_01 none V X) transposes_S8x8x64x256_S8x256x8x64_0_3_1_2) shapeCasts_S8x256x8x64_S8x256x512

/-- The same four for the latent queries, over every token. -/
def scoresL (Q : FVec Ideal S8x4096x8x96 .f32) (K : FVec Ideal S8x4352x8x96 .f32) : FVec Ideal S8x8x4096x4352 .f32 :=
  Host.divf (Host.dotGeneral dot_S8x4096x8x96_S8x4352x8x96_S8x8x4096x4352_3_3_1_1_02_02 none Q K) (broadcastInDim S8x8x4096x4352 ![] bcast_S_S8x8x4096x4352 (Host.sqrt (constant S_ .f32 0x42C00000#32)))

def maxL (X : FVec Ideal S8x8x4096x4352 .f32) : FVec Ideal S8x8x4096 .f32 :=
  Host.reduce FloatOps.maximumf X (constant S_ .f32 0xFF800000#32) reducesTo_S8x8x4096x4352_S8x8x4096_d3 h_S_

def subL (X : FVec Ideal S8x8x4096x4352 .f32) (M : FVec Ideal S8x8x4096 .f32) : FVec Ideal S8x8x4096x4352 .f32 :=
  Host.exp (subf X (broadcastInDim S8x8x4096x4352 ![0, 1, 2, 3] bcast_S8x8x4096x1_S8x8x4096x4352_0_1_2_3 (broadcastInDim S8x8x4096x1 ![0, 1, 2] bcast_S8x8x4096_S8x8x4096x1_0_1_2 (maximumf (broadcastInDim S8x8x4096 ![] bcast_S_S8x8x4096 (constant S_ .f32 0xFF800000#32)) M))))

def expL (X : FVec Ideal S8x8x4096x4352 .f32) : FVec Ideal S8x8x4096x4352 .f32 := subL X (maxL X)

def normL (X : FVec Ideal S8x8x4096x4352 .f32) : FVec Ideal S8x8x4096x4352 .f32 :=
  Host.divf X (broadcastInDim S8x8x4096x4352 ![0, 1, 2, 3] bcast_S8x8x4096x1_S8x8x4096x4352_0_1_2_3 (broadcastInDim S8x8x4096x1 ![0, 1, 2] bcast_S8x8x4096_S8x8x4096x1_0_1_2 (Host.reduceAdd X (constant S_ .f32 0x00000000#32) reducesTo_S8x8x4096x4352_S8x8x4096_d3 h_S_)))

def outL (V : FVec Ideal S8x4352x8x64 .f32) (X : FVec Ideal S8x8x4096x4352 .f32) : FVec Ideal S8x4096x512 .f32 :=
  shapeCast S8x4096x512 (transpose S8x4096x8x64 [0, 3, 1, 2] (Host.dotGeneral dot_S8x4352x8x64_S8x8x4096x4352_S8x8x64x4096_1_3_3_2_02_01 none V X) transposes_S8x8x64x4096_S8x4096x8x64_0_3_1_2) shapeCasts_S8x4096x8x64_S8x4096x512

def joinK (C : FVec Ideal S8x256x8x96 .f32) (L : FVec Ideal S8x4096x8x96 .f32) : FVec Ideal S8x4352x8x96 .f32 :=
  concatenate S8x4352x8x96 1 [⟨S8x256x8x96, C⟩, ⟨S8x4096x8x96, L⟩] concatenates_S8x256x8x96_S8x4096x8x96_S8x4352x8x96_d1

def joinV (C : FVec Ideal S8x256x8x64 .f32) (L : FVec Ideal S8x4096x8x64 .f32) : FVec Ideal S8x4352x8x64 .f32 :=
  concatenate S8x4352x8x64 1 [⟨S8x256x8x64, C⟩, ⟨S8x4096x8x64, L⟩] concatenates_S8x256x8x64_S8x4096x8x64_S8x4352x8x64_d1

def joinO (C : FVec Ideal S8x256x512 .f32) (L : FVec Ideal S8x4096x512 .f32) : FVec Ideal S8x4352x512 .bf16 :=
  truncf .bf16 (concatenate S8x4352x512 1 [⟨S8x256x512, C⟩, ⟨S8x4096x512, L⟩] concatenates_S8x256x512_S8x4096x512_S8x4352x512_d1) bitsLt_bf16_f32

variable (m : (ℓ : Loc nD τ sig) → Buf (Elt Ideal) ℓ)

theorem staged (c : Dev nD) : Cert.ReferenceIdeal.Value.res_main_v39 m c
    = joinO (outC (m ((c.tc : Thread nD τ).loc main_arg5)) (normC (expC (scoresC (m ((c.tc : Thread nD τ).loc main_arg3)) (m ((c.tc : Thread nD τ).loc main_arg4))))))
        (outL (joinV (m ((c.tc : Thread nD τ).loc main_arg5)) (m ((c.tc : Thread nD τ).loc main_arg2)))
          (normL (expL (scoresL (m ((c.tc : Thread nD τ).loc main_arg0)) (joinK (m ((c.tc : Thread nD τ).loc main_arg4)) (m ((c.tc : Thread nD τ).loc main_arg1))))))) := by
  rfl

theorem root : Ideal.sqrt (Ideal.ofBits .f32 0x42C00000#32) = ((Real.sqrt 96 : ℝ) : EReal) := by
  have e : Ideal.ofBits .f32 0x42C00000#32 = ((96 : ℝ) : EReal) := by
    simp [Ideal.ofBits, Ideal.ieee, -EReal.coe_mul]; norm_num
  rw [e, Ideal.sqrt_coe, if_neg (by norm_num)]

theorem scoresC_at (Q : FVec Ideal S8x256x8x96 .f32) (K : FVec Ideal S8x256x8x96 .f32) (b h : Fin 8) (t : Fin 256) (x : Fin 256) :
    (scoresC Q K (ix4 b h t x) : EReal) = Ideal.div (∑ d : Fin 96, Q (ix4 b t h d) * K (ix4 b x h d)) ((Real.sqrt 96 : ℝ) : EReal) := by
  rw [← root]
  pointwise [scoresC]

theorem maxC_at (X : FVec Ideal S8x8x256x256 .f32) (b h : Fin 8) (t : Fin 256) :
    (maxC X (ix3 b h t) : EReal) = Finset.fold max (Ideal.ofBits .f32 0xFF800000#32) (fun x : Fin 256 => (X (ix4 b h t x) : EReal)) Finset.univ := by
  pointwise [maxC]

theorem subC_at (X : FVec Ideal S8x8x256x256 .f32) (M : FVec Ideal S8x8x256 .f32) (b h : Fin 8) (t : Fin 256) (x : Fin 256) :
    (subC X M (ix4 b h t x) : EReal) = Ideal.exp (X (ix4 b h t x) - max (Ideal.ofBits .f32 0xFF800000#32) (M (ix3 b h t))) := by
  pointwise [subC]

theorem normC_at (X : FVec Ideal S8x8x256x256 .f32) (b h : Fin 8) (t : Fin 256) (x : Fin 256) :
    (normC X (ix4 b h t x) : EReal) = Ideal.div (X (ix4 b h t x)) (∑ x : Fin 256, X (ix4 b h t x)) := by
  pointwise [normC]

theorem outC_at (V : FVec Ideal S8x256x8x64 .f32) (X : FVec Ideal S8x8x256x256 .f32) (b : Fin 8) (t : Fin 256) (f : Fin 512) :
    (outC V X (ix3 b t f) : EReal) = ∑ x : Fin 256, V (ix4 b x ⟨f / 64, by omega⟩ ⟨f % 64, by omega⟩) * X (ix4 b ⟨f / 64, by omega⟩ t x) := by
  pointwise [outC]

/-- The context rows: attention of each query over its tokens. -/
theorem rowC (V : FVec Ideal S8x256x8x64 .f32) (Q : FVec Ideal S8x256x8x96 .f32) (K : FVec Ideal S8x256x8x96 .f32) (b : Fin 8) (t : Fin 256) (f : Fin 512) :
    (outC V (normC (expC (scoresC Q K))) (ix3 b t f) : EReal)
      = rOut (fun x : Fin 256 => Ideal.div (∑ d : Fin 96, Q (ix4 b t ⟨f / 64, by omega⟩ d) * K (ix4 b x ⟨f / 64, by omega⟩ d)) ((Real.sqrt 96 : ℝ) : EReal))
          fun x => V (ix4 b x ⟨f / 64, by omega⟩ ⟨f % 64, by omega⟩) := by
  rw [outC_at]
  unfold rOut
  refine Finset.sum_congr rfl fun x _ => congrArg (_ * ·) ?_
  rw [normC_at, zero_add]
  have e : ∀ x : Fin 256, (expC (scoresC Q K) (ix4 b ⟨f / 64, by omega⟩ t x) : EReal)
      = rW (fun x : Fin 256 => Ideal.div (∑ d : Fin 96, Q (ix4 b t ⟨f / 64, by omega⟩ d) * K (ix4 b x ⟨f / 64, by omega⟩ d)) ((Real.sqrt 96 : ℝ) : EReal)) x := by
    intro x
    unfold expC rW
    rw [subC_at, maxC_at]
    simp only [scoresC_at]
  rw [e]
  exact congrArg (Ideal.div _) (Finset.sum_congr rfl fun x _ => e x)

theorem scoresL_at (Q : FVec Ideal S8x4096x8x96 .f32) (K : FVec Ideal S8x4352x8x96 .f32) (b h : Fin 8) (t : Fin 4096) (x : Fin 4352) :
    (scoresL Q K (ix4 b h t x) : EReal) = Ideal.div (∑ d : Fin 96, Q (ix4 b t h d) * K (ix4 b x h d)) ((Real.sqrt 96 : ℝ) : EReal) := by
  rw [← root]
  pointwise [scoresL]

theorem maxL_at (X : FVec Ideal S8x8x4096x4352 .f32) (b h : Fin 8) (t : Fin 4096) :
    (maxL X (ix3 b h t) : EReal) = Finset.fold max (Ideal.ofBits .f32 0xFF800000#32) (fun x : Fin 4352 => (X (ix4 b h t x) : EReal)) Finset.univ := by
  pointwise [maxL]

theorem subL_at (X : FVec Ideal S8x8x4096x4352 .f32) (M : FVec Ideal S8x8x4096 .f32) (b h : Fin 8) (t : Fin 4096) (x : Fin 4352) :
    (subL X M (ix4 b h t x) : EReal) = Ideal.exp (X (ix4 b h t x) - max (Ideal.ofBits .f32 0xFF800000#32) (M (ix3 b h t))) := by
  pointwise [subL]

theorem normL_at (X : FVec Ideal S8x8x4096x4352 .f32) (b h : Fin 8) (t : Fin 4096) (x : Fin 4352) :
    (normL X (ix4 b h t x) : EReal) = Ideal.div (X (ix4 b h t x)) (∑ x : Fin 4352, X (ix4 b h t x)) := by
  pointwise [normL]

theorem outL_at (V : FVec Ideal S8x4352x8x64 .f32) (X : FVec Ideal S8x8x4096x4352 .f32) (b : Fin 8) (t : Fin 4096) (f : Fin 512) :
    (outL V X (ix3 b t f) : EReal) = ∑ x : Fin 4352, V (ix4 b x ⟨f / 64, by omega⟩ ⟨f % 64, by omega⟩) * X (ix4 b ⟨f / 64, by omega⟩ t x) := by
  pointwise [outL]

/-- The latent rows: attention of each query over its tokens. -/
theorem rowL (V : FVec Ideal S8x4352x8x64 .f32) (Q : FVec Ideal S8x4096x8x96 .f32) (K : FVec Ideal S8x4352x8x96 .f32) (b : Fin 8) (t : Fin 4096) (f : Fin 512) :
    (outL V (normL (expL (scoresL Q K))) (ix3 b t f) : EReal)
      = rOut (fun x : Fin 4352 => Ideal.div (∑ d : Fin 96, Q (ix4 b t ⟨f / 64, by omega⟩ d) * K (ix4 b x ⟨f / 64, by omega⟩ d)) ((Real.sqrt 96 : ℝ) : EReal))
          fun x => V (ix4 b x ⟨f / 64, by omega⟩ ⟨f % 64, by omega⟩) := by
  rw [outL_at]
  unfold rOut
  refine Finset.sum_congr rfl fun x _ => congrArg (_ * ·) ?_
  rw [normL_at, zero_add]
  have e : ∀ x : Fin 4352, (expL (scoresL Q K) (ix4 b ⟨f / 64, by omega⟩ t x) : EReal)
      = rW (fun x : Fin 4352 => Ideal.div (∑ d : Fin 96, Q (ix4 b t ⟨f / 64, by omega⟩ d) * K (ix4 b x ⟨f / 64, by omega⟩ d)) ((Real.sqrt 96 : ℝ) : EReal)) x := by
    intro x
    unfold expL rW
    rw [subL_at, maxL_at]
    simp only [scoresL_at]
  rw [e]
  exact congrArg (Ideal.div _) (Finset.sum_congr rfl fun x _ => e x)

theorem joinK_at (C : FVec Ideal S8x256x8x96 .f32) (L : FVec Ideal S8x4096x8x96 .f32) (b : Fin 8) (t : Fin 4352) (h : Fin 8) (d : Fin 96) :
    (joinK C L (ix4 b t h d) : EReal) = if ht : (t : ℕ) < 256 then C (ix4 b ⟨t, ht⟩ h d) else L (ix4 b ⟨t - 256, by omega⟩ h d) := by
  pointwise [joinK]

theorem joinV_at (C : FVec Ideal S8x256x8x64 .f32) (L : FVec Ideal S8x4096x8x64 .f32) (b : Fin 8) (t : Fin 4352) (h : Fin 8) (d : Fin 64) :
    (joinV C L (ix4 b t h d) : EReal) = if ht : (t : ℕ) < 256 then C (ix4 b ⟨t, ht⟩ h d) else L (ix4 b ⟨t - 256, by omega⟩ h d) := by
  pointwise [joinV]

theorem joinO_at (C : FVec Ideal S8x256x512 .f32) (L : FVec Ideal S8x4096x512 .f32) (b : Fin 8) (t : Fin 4352) (f : Fin 512) :
    (joinO C L (ix3 b t f) : EReal) = if ht : (t : ℕ) < 256 then C (ix3 b ⟨t, ht⟩ f) else L (ix3 b ⟨t - 256, by omega⟩ f) := by
  pointwise [joinO]

end Cert.MlaRef

end

end
-- ==== Proof.Match.lean ====
/- The reference's result is the array the attention call writes. -/
module

public import proofs.«01_k».proof.Proof.Final
public import proofs.«01_k».proof.Proof.Ref

@[expose] public section

set_option maxRecDepth 16384

noncomputable section

open Idealize.ShloMosaic Idealize.ShloMosaic.TcCoe Idealize.SL.Sem Cert.Row

namespace Cert.Mla

open Cert.KernelIdeal Cert.MlaRef

theorem joined (qc kc : FVec Ideal S8x256x8x96 .f32) (q k : FVec Ideal S8x4096x8x96 .f32) (vc : FVec Ideal S8x256x8x64 .f32) (v : FVec Ideal S8x4096x8x64 .f32)
    (b : Fin 8) (t : Fin 4352) (f : Fin 512) :
    (joinO (outC vc (normC (expC (scoresC qc kc)))) (outL (joinV vc v) (normL (expL (scoresL q (joinK kc k))))) (ix3 b t f) : EReal)
      = Gat q k v qc kc vc b t f := by
  rw [joinO_at]
  unfold Gat att
  by_cases ht : (t : ℕ) < 256
  · rw [dif_pos ht, if_pos ht, rowC]
    have c96 : ∀ (C : FVec Ideal S8x256x8x96 .f32) L (x : Fin 4352) (hx : (x : ℕ) < 256) h d, cat96 C L b x h d = C (ix4 b ⟨x, hx⟩ h d) := fun C L x hx h d => dif_pos hx
    have c64 : ∀ (C : FVec Ideal S8x256x8x64 .f32) L (x : Fin 4352) (hx : (x : ℕ) < 256) h d, cat64 C L b x h d = C (ix4 b ⟨x, hx⟩ h d) := fun C L x hx h d => dif_pos hx
    refine congrArg₂ rOut (funext fun x => ?_) (funext fun x => (c64 vc v ⟨x, by omega⟩ x.isLt _ _).symm)
    refine congrArg (Ideal.div · _) (Finset.sum_congr rfl fun d _ => ?_)
    exact congrArg₂ (· * ·) (c96 qc q t ht _ d).symm (c96 kc k ⟨x, by omega⟩ x.isLt _ d).symm
  · rw [dif_neg ht, if_neg ht, rowL]
    refine congrArg₂ rOut (funext fun x => ?_) (funext fun x => joinV_at vc v b x _ _)
    refine congrArg (Ideal.div · _) (Finset.sum_congr rfl fun d _ => ?_)
    refine congrArg₂ (· * ·) ?_ (joinK_at kc k b x _ d)
    exact (dif_neg ht : cat96 qc q b t _ d = _).symm

theorem reference_eq (m' : (ℓ : Loc Cert.ReferenceIdeal.nD Cert.ReferenceIdeal.τ Cert.ReferenceIdeal.sig) → Buf (Elt Ideal) ℓ) (c : Dev Cert.ReferenceIdeal.nD)
    (q k : FVec Ideal S8x4096x8x96 .f32) (v : FVec Ideal S8x4096x8x64 .f32) (qc kc : FVec Ideal S8x256x8x96 .f32) (vc : FVec Ideal S8x256x8x64 .f32)
    (h0 : m' ((c.tc : Thread Cert.ReferenceIdeal.nD Cert.ReferenceIdeal.τ).loc Cert.ReferenceIdeal.main_arg0) = q)
    (h1 : m' ((c.tc : Thread Cert.ReferenceIdeal.nD Cert.ReferenceIdeal.τ).loc Cert.ReferenceIdeal.main_arg1) = k)
    (h2 : m' ((c.tc : Thread Cert.ReferenceIdeal.nD Cert.ReferenceIdeal.τ).loc Cert.ReferenceIdeal.main_arg2) = v)
    (h3 : m' ((c.tc : Thread Cert.ReferenceIdeal.nD Cert.ReferenceIdeal.τ).loc Cert.ReferenceIdeal.main_arg3) = qc)
    (h4 : m' ((c.tc : Thread Cert.ReferenceIdeal.nD Cert.ReferenceIdeal.τ).loc Cert.ReferenceIdeal.main_arg4) = kc)
    (h5 : m' ((c.tc : Thread Cert.ReferenceIdeal.nD Cert.ReferenceIdeal.τ).loc Cert.ReferenceIdeal.main_arg5) = vc) :
    Cert.ReferenceIdeal.Value.res_main_v39 m' c = G q k v qc kc vc := by
  subst h0 h1 h2 h3 h4 h5
  rw [staged]
  funext y
  idx_vars y
  exact joined _ _ _ _ _ _ _ _ _

end Cert.Mla

end

end
-- ==== Proof.RouteRow.lean ====
/- One token of the output projection and of the routing, over the extended reals: the gated residual, the
   modulated norm, and the queries of the product keys. -/
module

public import Idealize.ShloMosaic.PureOps.Ideal

@[expose] public section

set_option maxRecDepth 16384

noncomputable section

open Idealize.ShloMosaic

namespace Cert.Route

/-- The gated residual at one feature: `h + g * (a W₀ + b W₁)`, the two head groups' products apart. -/
def hid (h g : EReal) (a b w₀ w₁ : Fin 512 → EReal) : EReal :=
  h + g * ((∑ k : Fin 512, a k * w₀ k) + ∑ k : Fin 512, b k * w₁ k)

/-- The reciprocal root of the row's mean square, the mean taken by a product with `1/1024`. -/
def inv (H : Fin 1024 → EReal) : EReal :=
  Ideal.rsqrt ((∑ d : Fin 1024, H d * H d) * Ideal.ofBits .f32 0x3A800000#32 + Ideal.ofBits .f32 0x358637BD#32)

/-- The modulated norm of the row. -/
def nrm (H g s t : Fin 1024 → EReal) (d : Fin 1024) : EReal :=
  H d * inv H * g d * (Ideal.ofBits .f32 0x3F800000#32 + s d) + t d

/-- A product over the two halves of a row of 1024 is the product over the row. -/
theorem halves (f : Fin 1024 → EReal) :
    (∑ k : Fin 512, f ⟨k, by omega⟩) + ∑ k : Fin 512, f ⟨512 + k, by omega⟩ = ∑ k : Fin 1024, f k :=
  (Fin.sum_univ_add (a := 512) (b := 512) f).symm

/-- The quotient by 1024 is the product with `1/1024`. -/
theorem mean (x : EReal) : Ideal.div x (Ideal.ofBits .f32 0x44800000#32) = x * Ideal.ofBits .f32 0x3A800000#32 := by
  have e : Ideal.ofBits .f32 0x44800000#32 = ((1024 : ℝ) : EReal) := by
    simp [Ideal.ofBits, Ideal.ieee, -EReal.coe_mul]; norm_num
  have e' : Ideal.ofBits .f32 0x3A800000#32 = ((1024⁻¹ : ℝ) : EReal) := by
    simp [Ideal.ofBits, Ideal.ieee, -EReal.coe_mul]; norm_num
  rw [e, e', Ideal.div_coe (by norm_num), one_div]

/-- The inputs as functions: the residual stream, the two head groups, and the modulation of the latent tokens and of
    the context; the output projection, the norm's gain, the queries' projection. -/
structure Inp where
  hL : Fin 8 → Fin 4096 → Fin 1024 → EReal
  hC : Fin 8 → Fin 256 → Fin 1024 → EReal
  aL : Fin 8 → Fin 4096 → Fin 512 → EReal
  bL : Fin 8 → Fin 4096 → Fin 512 → EReal
  aC : Fin 8 → Fin 256 → Fin 512 → EReal
  bC : Fin 8 → Fin 256 → Fin 512 → EReal
  mL : Fin 8 → Fin 6 → Fin 1024 → EReal
  mC : Fin 6 → Fin 1024 → EReal
  w : Fin 1024 → Fin 1024 → EReal
  g : Fin 1024 → EReal
  q : Fin 1024 → Fin 2048 → EReal

/-- Tokens in order: the context's rows first, the latent rows after. -/
def tok {n : ℕ} (C : Fin 8 → Fin 256 → Fin n → EReal) (L : Fin 8 → Fin 4096 → Fin n → EReal) (b : Fin 8) (t : Fin 4352) (d : Fin n) : EReal :=
  if ht : (t : ℕ) < 256 then C b ⟨t, ht⟩ d else L b ⟨t - 256, by omega⟩ d

/-- Row `i` of the modulation at a token: the context's for its tokens, the batch's for the latent ones. -/
def Inp.mod (I : Inp) (i : Fin 6) (b : Fin 8) (t : Fin 4352) (d : Fin 1024) : EReal :=
  if (t : ℕ) < 256 then I.mC i d else I.mL b i d

/-- The residual stream after the output projection. -/
def Inp.H (I : Inp) (b : Fin 8) (t : Fin 4352) (d : Fin 1024) : EReal :=
  hid (tok I.hC I.hL b t d) (I.mod 2 b t d) (tok I.aC I.aL b t) (tok I.bC I.bL b t) (fun k => I.w ⟨k, by omega⟩ d) (fun k => I.w ⟨512 + k, by omega⟩ d)

/-- Its modulated norm. -/
def Inp.B (I : Inp) (b : Fin 8) (t : Fin 4352) (d : Fin 1024) : EReal :=
  nrm (I.H b t) I.g (I.mod 4 b t) (I.mod 3 b t) d

/-- The norm as a pair: its value, and what the value's rounding leaves. -/
def Inp.P (I : Inp) (b : Fin 8) (t : Fin 4352) (l : Fin 2048) : EReal :=
  if hl : (l : ℕ) < 1024 then I.B b t ⟨l, hl⟩ else I.B b t ⟨l - 1024, by omega⟩ - I.B b t ⟨l - 1024, by omega⟩

/-- The queries: one product with the norm, sixteen groups of 128 lanes. -/
def Inp.Q (I : Inp) (h : Fin 16) (n : Fin 34816) (l : Fin 128) : EReal :=
  ∑ k : Fin 1024, I.B ⟨n / 4352, by omega⟩ ⟨n % 4352, by omega⟩ k * I.q k ⟨h * 128 + l, by omega⟩

end Cert.Route

end

end
-- ==== Proof.RouteBlock.lean ====
/- What the body of the routing call computes from its blocks, entry by entry. -/
module

public import proofs.«01_k».proof.Proof.Gen.Kernel2Ideal.Value
public import Idealize.ShloMosaic.Lib.Pipeline.ValueKit
public import proofs.«01_k».proof.Proof.RouteRow

@[expose] public section

set_option maxRecDepth 16384

noncomputable section

open Idealize.ShloMosaic Idealize.ShloMosaic.TcCoe Idealize.SL.Sem

namespace Cert.Route

open Cert.Kernel2Ideal Cert.Kernel2Ideal.Gen

theorem resid_at (P0 : Vec Ideal S1x256x1024 .f32) (P1 : Vec Ideal S1x6x1024 .f32) (P2 : Vec Ideal S1x256x512 .bf16) (P3 : Vec Ideal S512x1024 .bf16)
    (P4 : Vec Ideal S1x256x512 .bf16) (P5 : Vec Ideal S512x1024 .bf16) (r : Fin 256) (d : Fin 1024) :
    (k0_pay3 P0 P1 P2 P3 P4 P5 (ix2 r d) : EReal)
      = hid (P0 (ix3 0 r d)) (P1 (ix3 0 2 d)) (fun k => P2 (ix3 0 r k)) (fun k => P4 (ix3 0 r k)) (fun k => P3 (ix2 k d)) (fun k => P5 (ix2 k d)) := by
  unfold hid
  pointwise [k0_pay3, k0_pay2]

theorem square_at (P0 : Vec Ideal S1x256x1024 .f32) (P1 : Vec Ideal S1x6x1024 .f32) (P2 : Vec Ideal S1x256x512 .bf16) (P3 : Vec Ideal S512x1024 .bf16)
    (P4 : Vec Ideal S1x256x512 .bf16) (P5 : Vec Ideal S512x1024 .bf16) (r : Fin 256) :
    (k0_pay6 P0 P1 P2 P3 P4 P5 (ix2 r 0) : EReal)
      = (∑ d : Fin 1024, (k0_pay3 P0 P1 P2 P3 P4 P5 (ix2 r d) : EReal) * k0_pay3 P0 P1 P2 P3 P4 P5 (ix2 r d))
          * Ideal.ofBits .f32 0x3A800000#32 + Ideal.ofBits .f32 0x358637BD#32 := by
  generalize h : k0_pay3 P0 P1 P2 P3 P4 P5 = X
  unfold k0_pay6
  rw [h]
  pointwise

theorem norm_at (M : FVec Ideal S6x1024 .f32) (X : FVec Ideal S256x1024 .f32) (G : FVec Ideal S1x1024 .f32) (Z : FVec Ideal S256x1 .f32) (r : Fin 256) (d : Fin 1024) :
    (k0_pay7 M X G Z (ix2 r d) : EReal)
      = X (ix2 r d) * Ideal.rsqrt (Z (ix2 r 0)) * G (ix2 0 d) * (Ideal.ofBits .f32 0x3F800000#32 + M (ix2 4 d)) + M (ix2 3 d) := by
  pointwise [k0_pay7]

theorem query_at (M : FVec Ideal S6x1024 .f32) (X : FVec Ideal S256x1024 .f32) (G : FVec Ideal S1x1024 .f32) (Z : FVec Ideal S256x1 .f32) (W : Vec Ideal S1024x2048 .bf16)
    (r : Fin 256) (f : Fin 2048) :
    (k0_pay11 M X G Z W (ix2 r f) : EReal) = ∑ k : Fin 1024, (k0_pay7 M X G Z (ix2 r k) : EReal) * W (ix2 k f) := by
  unfold k0_pay11 k0_pay8
  generalize k0_pay7 M X G Z = Y
  pointwise

theorem high_at (M : FVec Ideal S6x1024 .f32) (X : FVec Ideal S256x1024 .f32) (G : FVec Ideal S1x1024 .f32) (Z : FVec Ideal S256x1 .f32) (r : Fin 256) (d : Fin 1024) :
    (k0_pay9 M X G Z (ix3 0 r d) : EReal) = k0_pay7 M X G Z (ix2 r d) := by
  unfold k0_pay9 k0_pay8
  generalize k0_pay7 M X G Z = Y
  pointwise

theorem low_at (M : FVec Ideal S6x1024 .f32) (X : FVec Ideal S256x1024 .f32) (G : FVec Ideal S1x1024 .f32) (Z : FVec Ideal S256x1 .f32) (r : Fin 256) (d : Fin 1024) :
    (k0_pay10 M X G Z (ix3 0 r d) : EReal) = (k0_pay7 M X G Z (ix2 r d) : EReal) - k0_pay7 M X G Z (ix2 r d) := by
  unfold k0_pay10 k0_pay8
  generalize k0_pay7 M X G Z = Y
  pointwise

theorem mod_at (A : Vec Ideal S1x6x1024 .f32) (i : Fin 6) (d : Fin 1024) : (k0_pay2 A (ix2 i d) : EReal) = A (ix3 0 i d) := by
  pointwise [k0_pay2]

theorem gain_at (A : Vec Ideal S1x1024 .f32) (d : Fin 1024) : (k0_pay5 A (ix2 0 d) : EReal) = A (ix2 0 d) := by
  pointwise [k0_pay5]

theorem ld_h (A : Vec Ideal S1x256x1024 .f32) (r : Fin 256) (d : Fin 1024) : View.ld A r0_0 (ix3 0 r d) = A (ix3 0 r d) := by pointwise
theorem ld_m (A : Vec Ideal S1x6x1024 .f32) (i : Fin 6) (d : Fin 1024) : View.ld A r0_1 (ix3 0 i d) = A (ix3 0 i d) := by pointwise
theorem ld_a (A : Vec Ideal S1x256x512 .bf16) (r : Fin 256) (k : Fin 512) : View.ld A r0_2 (ix3 0 r k) = A (ix3 0 r k) := by pointwise
theorem ld_w0 (A : Vec Ideal S1024x1024 .bf16) (k : Fin 512) (d : Fin 1024) : View.ld A r0_3 (ix2 k d) = A (ix2 ⟨k, by omega⟩ d) := by pointwise
theorem ld_w1 (A : Vec Ideal S1024x1024 .bf16) (k : Fin 512) (d : Fin 1024) : View.ld A r0_4 (ix2 k d) = A (ix2 ⟨512 + k, by omega⟩ d) := by pointwise
theorem ld_g (A : Vec Ideal S1x1024 .f32) (d : Fin 1024) : View.ld A r0_5 (ix2 0 d) = A (ix2 0 d) := by pointwise
theorem ld_q (A : Vec Ideal S1024x2048 .bf16) (k : Fin 1024) (f : Fin 2048) : View.ld A r0_8 (ix2 k f) = A (ix2 k f) := by pointwise

section
variable (x0 : Vec Ideal S1x256x1024 .f32) (x1 x2 : Vec Ideal S1x256x512 .bf16) (x3 : Vec Ideal S1024x1024 .bf16) (x4 : Vec Ideal S1x6x1024 .f32)
  (x5 : Vec Ideal S1x1024 .f32) (x6 : Vec Ideal S1024x2048 .bf16)

/-- The residual row of a block. -/
def bH (r : Fin 256) (d : Fin 1024) : EReal :=
  hid (x0 (ix3 0 r d)) (x4 (ix3 0 2 d)) (fun k => x1 (ix3 0 r k)) (fun k => x2 (ix3 0 r k)) (fun k => x3 (ix2 ⟨k, by omega⟩ d)) (fun k => x3 (ix2 ⟨512 + k, by omega⟩ d))

/-- Its modulated norm. -/
def bB (r : Fin 256) (d : Fin 1024) : EReal :=
  nrm (bH x0 x1 x2 x3 x4 r) (fun d => x5 (ix2 0 d)) (fun d => x4 (ix3 0 4 d)) (fun d => x4 (ix3 0 3 d)) d

theorem body_H (r : Fin 256) (d : Fin 1024) : (k0_pay31 x0 x1 x2 x3 x4 x5 x6 (ix2 r d) : EReal) = bH x0 x1 x2 x3 x4 r d := by
  unfold k0_pay31 bH
  rw [resid_at, ld_h, ld_m]
  refine congr (congr (congr (congrArg (hid _ _) ?_) ?_) ?_) ?_ <;> funext k
  · exact ld_a x1 r k
  · exact ld_a x2 r k
  · exact ld_w0 x3 k d
  · exact ld_w1 x3 k d

theorem body_B (r : Fin 256) (d : Fin 1024) :
    (k0_pay7 (k0_pay30 x0 x1 x2 x3 x4 x5 x6) (k0_pay31 x0 x1 x2 x3 x4 x5 x6) (k0_pay32 x0 x1 x2 x3 x4 x5 x6) (k0_pay33 x0 x1 x2 x3 x4 x5 x6) (ix2 r d) : EReal)
      = bB x0 x1 x2 x3 x4 x5 r d := by
  have s : (k0_pay33 x0 x1 x2 x3 x4 x5 x6 (ix2 r 0) : EReal)
      = (∑ d : Fin 1024, bH x0 x1 x2 x3 x4 r d * bH x0 x1 x2 x3 x4 r d) * Ideal.ofBits .f32 0x3A800000#32 + Ideal.ofBits .f32 0x358637BD#32 := by
    refine (square_at _ _ _ _ _ _ r).trans ?_
    refine congrArg (fun z : EReal => z * Ideal.ofBits .f32 0x3A800000#32 + Ideal.ofBits .f32 0x358637BD#32) (Finset.sum_congr rfl fun d _ => ?_)
    exact congrArg₂ (· * ·) (body_H x0 x1 x2 x3 x4 x5 x6 r d) (body_H x0 x1 x2 x3 x4 x5 x6 r d)
  rw [norm_at, s, body_H]
  unfold k0_pay30 k0_pay32
  rw [gain_at, mod_at, mod_at, ld_g, ld_m, ld_m]
  rfl

theorem out_H (r : Fin 256) (d : Fin 1024) : (out0_7 x0 x1 x2 x3 x4 x5 x6 (ix3 0 r d) : EReal) = bH x0 x1 x2 x3 x4 r d := by
  unfold out0_7
  rw [Cert.Kernel2Ideal.Value.canon7_eq]
  exact (congrArg (k0_pay31 x0 x1 x2 x3 x4 x5 x6) (by idx_ext)).trans (body_H x0 x1 x2 x3 x4 x5 x6 r d)

/-- The pair the body leaves, as a block. -/
def bP : Vec Ideal S1x256x2048 .bf16 := fun y =>
  if hl : (y 2).val < 1024 then bB x0 x1 x2 x3 x4 x5 (y 1) ⟨(y 2).val, hl⟩
  else bB x0 x1 x2 x3 x4 x5 (y 1) ⟨(y 2).val - 1024, by have h : (y 2).val < 2048 := (y 2).isLt; omega⟩
    - bB x0 x1 x2 x3 x4 x5 (y 1) ⟨(y 2).val - 1024, by have h : (y 2).val < 2048 := (y 2).isLt; omega⟩

theorem out_P (y : S1x256x2048.Idx) : out0_8 x0 x1 x2 x3 x4 x5 x6 y = bP x0 x1 x2 x3 x4 x5 y := by
  unfold out0_8
  refine View.canon_apply_of_pieces (bP x0 x1 x2 x3 x4 x5) _ ?_ y (cover0_8 _ _ y)
  intro pc hpc
  rcases List.mem_cons.mp hpc with rfl | hpc
  · intro x
    obtain ⟨r, d, rfl⟩ : ∃ (r : Fin 256) (d : Fin 1024), x = ix3 0 r d := ⟨x 1, x 2, by idx_ext⟩
    refine Eq.trans ((low_at _ _ _ _ r d).trans (congrArg₂ (· - ·) (body_B x0 x1 x2 x3 x4 x5 x6 r d) (body_B x0 x1 x2 x3 x4 x5 x6 r d))) ?_
    have e : r0_7.idx (ix3 0 r d) = ix3 0 r ⟨1024 + d, by omega⟩ := by idx_ext
    refine Eq.trans ?_ (congrArg (bP x0 x1 x2 x3 x4 x5) e).symm
    refine Eq.trans ?_ (dif_neg (by show ¬ 1024 + (d : ℕ) < 1024; omega)).symm
    have e' : (⟨1024 + (d : ℕ) - 1024, by omega⟩ : Fin 1024) = d := Fin.ext (by show 1024 + (d : ℕ) - 1024 = d; omega)
    exact congrArg (fun z : Fin 1024 => bB x0 x1 x2 x3 x4 x5 r z - bB x0 x1 x2 x3 x4 x5 r z) e'.symm
  rcases List.mem_cons.mp hpc with rfl | hpc
  · intro x
    obtain ⟨r, d, rfl⟩ : ∃ (r : Fin 256) (d : Fin 1024), x = ix3 0 r d := ⟨x 1, x 2, by idx_ext⟩
    refine Eq.trans ((high_at _ _ _ _ r d).trans (body_B x0 x1 x2 x3 x4 x5 x6 r d)) ?_
    have e : r0_6.idx (ix3 0 r d) = ix3 0 r ⟨d, by omega⟩ := by idx_ext
    refine Eq.trans ?_ (congrArg (bP x0 x1 x2 x3 x4 x5) e).symm
    unfold bP
    exact (dif_pos (c := (d : ℕ) < 1024) (t := fun hl => bB x0 x1 x2 x3 x4 x5 r ⟨d, hl⟩) d.isLt).symm
  nomatch hpc

theorem out_Q (h : Fin 16) (r : Fin 256) (l : Fin 128) : (out0_9 x0 x1 x2 x3 x4 x5 x6 (ix3 h r l) : EReal)
    = ∑ k : Fin 1024, bB x0 x1 x2 x3 x4 x5 r k * x6 (ix2 k ⟨h * 128 + l, by omega⟩) := by
  have e : (out0_9 x0 x1 x2 x3 x4 x5 x6 (ix3 h r l) : EReal) = k0_pay34 x0 x1 x2 x3 x4 x5 x6 (ix2 r ⟨h * 128 + l, by omega⟩) := by
    unfold out0_9 k0_pay34 k0_pay30 k0_pay31 k0_pay32 k0_pay33
    rw [Cert.Kernel2Ideal.Value.canon9_eq]
    exact congrArg (k0_pay11 _ _ _ _ _) (by idx_ext)
  rw [e]
  unfold k0_pay34
  rw [query_at]
  refine Finset.sum_congr rfl fun k _ => ?_
  rw [body_B, ld_q]

end

end Cert.Route

end

end
-- ==== Proof.RouteFinal.lean ====
/- The arrays the routing call stages, its blocks, and the arrays it writes. -/
module

public import proofs.«01_k».proof.Proof.RouteBlock

@[expose] public section

set_option maxRecDepth 16384

noncomputable section

open Idealize.ShloMosaic Idealize.ShloMosaic.TcCoe Idealize.SL.Sem

namespace Cert.Route

open Cert.Kernel2Ideal Cert.Kernel2Ideal.Gen

/-- The inputs read off the arguments' arrays. -/
def inp (h : FVec Ideal S8x4096x1024 .f32) (hc : FVec Ideal S8x256x1024 .f32) (a b : FVec Ideal S8x4096x512 .f32) (ac bc : FVec Ideal S8x256x512 .f32)
    (ml : FVec Ideal S8x6x1024 .f32) (mc : FVec Ideal S6x1024 .f32) (w : FVec Ideal S1024x1024 .f32) (g : FVec Ideal S1024 .f32) (q : FVec Ideal S1024x2048 .f32) : Inp where
  hL b t d := h (ix3 b t d)
  hC b t d := hc (ix3 b t d)
  aL b t d := a (ix3 b t d)
  bL i t d := b (ix3 i t d)
  aC b t d := ac (ix3 b t d)
  bC b t d := bc (ix3 b t d)
  mL b i d := ml (ix3 b i d)
  mC i d := mc (ix2 i d)
  w k d := w (ix2 k d)
  g d := g (ix1 d)
  q k f := q (ix2 k f)

/-- The three results as arrays. -/
def arrH (I : Inp) : FVec Ideal S8x4352x1024 .f32 := fun i => I.H (i 0) (i 1) (i 2)
def arrP (I : Inp) : FVec Ideal S8x4352x2048 .bf16 := fun i => I.P (i 0) (i 1) (i 2)
def arrQ (I : Inp) : FVec Ideal S16x34816x128 .bf16 := fun i => I.Q (i 0) (i 1) (i 2)

/-- Tokens joined, at either width. -/
def join1024 (C : FVec Ideal S8x256x1024 .f32) (L : FVec Ideal S8x4096x1024 .f32) : FVec Ideal S8x4352x1024 .f32 :=
  concatenate S8x4352x1024 1 [⟨S8x256x1024, C⟩, ⟨S8x4096x1024, L⟩] concatenates_S8x256x1024_S8x4096x1024_S8x4352x1024_d1

def join512 (C : FVec Ideal S8x256x512 .f32) (L : FVec Ideal S8x4096x512 .f32) : FVec Ideal S8x4352x512 .f32 :=
  concatenate S8x4352x512 1 [⟨S8x256x512, C⟩, ⟨S8x4096x512, L⟩] concatenates_S8x256x512_S8x4096x512_S8x4352x512_d1

/-- The modulations stacked, the context's last. -/
def stack (L : FVec Ideal S8x6x1024 .f32) (C : FVec Ideal S6x1024 .f32) : FVec Ideal S9x6x1024 .f32 :=
  concatenate S9x6x1024 0 [⟨S8x6x1024, L⟩, ⟨S1x6x1024, broadcastInDim S1x6x1024 ![1, 2] bcast_S6x1024_S1x6x1024_1_2 C⟩] concatenates_S8x6x1024_S1x6x1024_S9x6x1024_d0

theorem join1024_at (C L) (b : Fin 8) (t : Fin 4352) (d : Fin 1024) :
    (join1024 C L (ix3 b t d) : EReal) = tok (fun b t d => C (ix3 b t d)) (fun b t d => L (ix3 b t d)) b t d := by
  unfold tok
  pointwise [join1024]

theorem join512_at (C L) (b : Fin 8) (t : Fin 4352) (d : Fin 512) :
    (join512 C L (ix3 b t d) : EReal) = tok (fun b t d => C (ix3 b t d)) (fun b t d => L (ix3 b t d)) b t d := by
  unfold tok
  pointwise [join512]

theorem stack_at (L C) (j : Fin 9) (i : Fin 6) (d : Fin 1024) :
    (stack L C (ix3 j i d) : EReal) = if hj : (j : ℕ) < 8 then L (ix3 ⟨j, hj⟩ i d) else C (ix2 i d) := by
  pointwise [stack]

theorem row_at (g : FVec Ideal S1024 .f32) (d : Fin 1024) : (shapeCast S1x1024 g shapeCasts_S1024_S1x1024 (ix2 0 d) : EReal) = g (ix1 d) := by
  pointwise

/-- An array at sixteen bits. -/
def narrow {s : Shape} (x : FVec Ideal s .f32) : FVec Ideal s .bf16 := truncf .bf16 x bitsLt_bf16_f32

variable (m : (ℓ : Loc nD τ sig) → Buf (Elt Ideal) ℓ)

/-- The inputs at device `c`. -/
def inp' (c : Dev nD) : Inp :=
  inp (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

theorem entry_h (c : Dev nD) : V m c main_v0 = join1024 (m ((c.tc : Thread nD τ).loc main_arg1)) (m ((c.tc : Thread nD τ).loc main_arg0)) := by
  unfold V
  after_results_simp; rfl

theorem entry_a (c : Dev nD) : V m c main_v2 = truncf .bf16 (join512 (m ((c.tc : Thread nD τ).loc main_arg4)) (m ((c.tc : Thread nD τ).loc main_arg2))) bitsLt_bf16_f32 := by
  unfold V
  after_results_simp; rfl

theorem entry_b (c : Dev nD) : V m c main_v4 = truncf .bf16 (join512 (m ((c.tc : Thread nD τ).loc main_arg5)) (m ((c.tc : Thread nD τ).loc main_arg3))) bitsLt_bf16_f32 := by
  unfold V
  after_results_simp; rfl

theorem join_stack {a a' : FVec Ideal S8x6x1024 .f32} {b b' : FVec Ideal S1x6x1024 .f32} (ha : a = a') (hb : b = b') :
    concatenate S9x6x1024 0 [⟨S8x6x1024, a⟩, ⟨S1x6x1024, b⟩] concatenates_S8x6x1024_S1x6x1024_S9x6x1024_d0
      = concatenate S9x6x1024 0 [⟨S8x6x1024, a'⟩, ⟨S1x6x1024, b'⟩] concatenates_S8x6x1024_S1x6x1024_S9x6x1024_d0 := by
  subst ha hb; rfl

theorem entry_m (c : Dev nD) : V m c main_v6 = stack (m ((c.tc : Thread nD τ).loc main_arg6)) (m ((c.tc : Thread nD τ).loc main_arg7)) := by
  unfold V
  after_results_simp
  refine join_stack ?_ ?_ <;> after_results_simp <;> rfl

theorem entry_w (c : Dev nD) : V m c main_v7 = narrow (s := S1024x1024) (m ((c.tc : Thread nD τ).loc main_arg8)) := by
  unfold V
  after_results_simp; rfl

theorem entry_g (c : Dev nD) : V m c main_v8 = shapeCast S1x1024 (m ((c.tc : Thread nD τ).loc main_arg9) : FVec Ideal S1024 .f32) shapeCasts_S1024_S1x1024 := by
  unfold V
  after_results_simp; rfl

theorem entry_q (c : Dev nD) : V m c main_v9 = narrow (s := S1024x2048) (m ((c.tc : Thread nD τ).loc main_arg10)) := by
  unfold V
  after_results_simp; rfl

theorem trunc_at {s : Shape} (x : FVec Ideal s .f32) (h) (i : s.Idx) : (truncf .bf16 x h i : EReal) = x i := rfl

theorem narrow_at {s : Shape} (x : FVec Ideal s .f32) (i : s.Idx) : (narrow x i : EReal) = x i := rfl

theorem idx : ∀ t : Fin cfg0.N, win0_0.index t = ![t.val / 17, t.val % 17, 0] ∧ win0_1.index t = ![t.val / 17, t.val % 17, 0] ∧ win0_2.index t = ![t.val / 17, t.val % 17, 0] ∧ win0_3.index t = ![0, 0]
    ∧ win0_5.index t = ![0, 0] ∧ win0_6.index t = ![0, 0] ∧ win0_7.index t = ![t.val / 17, t.val % 17, 0] ∧ win0_8.index t = ![t.val / 17, t.val % 17, 0] ∧ win0_9.index t = ![0, t.val, 0] := (by decide +kernel : ∀ t : Fin grid0.N, _)

theorem idx_mod : ∀ t : Fin cfg0.N, win0_4.index t = ![if t.val % 17 = 0 then 8 else t.val / 17, 0, 0] := (by decide +kernel : ∀ t : Fin grid0.N, _)

theorem lt_N (t : Fin cfg0.N) : t.val < 136 := lt_of_lt_of_eq t.isLt N_0

/-- The batch of a grid point, and the token of its row `r`. -/
abbrev pb (t : Fin cfg0.N) : Fin 8 := ⟨t.val / 17, by have := lt_N t; omega⟩
abbrev pt (t : Fin cfg0.N) (r : Fin 256) : Fin 4352 := ⟨t.val % 17 * 256 + r, by omega⟩

theorem block_h (A : FVec Ideal S8x4352x1024 .f32) (t : Fin cfg0.N) (r : Fin 256) (d : Fin 1024) :
    (((cfg0.win 0).blk t).view.read (Elt Ideal) A (ix3 0 r d) : EReal) = A (ix3 (pb t) (pt t r) d) := by
  blk_simp
  blk_ext [idx t]

theorem block_a (A : FVec Ideal S8x4352x512 .bf16) (t : Fin cfg0.N) (r : Fin 256) (d : Fin 512) :
    (((cfg0.win 1).blk t).view.read (Elt Ideal) A (ix3 0 r d) : EReal) = A (ix3 (pb t) (pt t r) d) := by
  blk_simp
  blk_ext [idx t]

theorem block_b (A : FVec Ideal S8x4352x512 .bf16) (t : Fin cfg0.N) (r : Fin 256) (d : Fin 512) :
    (((cfg0.win 2).blk t).view.read (Elt Ideal) A (ix3 0 r d) : EReal) = A (ix3 (pb t) (pt t r) d) := by
  blk_simp
  blk_ext [idx t]

theorem block_w (A : FVec Ideal S1024x1024 .bf16) (t : Fin cfg0.N) (k d : Fin 1024) :
    (((cfg0.win 3).blk t).view.read (Elt Ideal) A (ix2 k d) : EReal) = A (ix2 k d) := by
  blk_simp
  blk_ext [idx t]

theorem block_m (A : FVec Ideal S9x6x1024 .f32) (t : Fin cfg0.N) (i : Fin 6) (d : Fin 1024) :
    (((cfg0.win 4).blk t).view.read (Elt Ideal) A (ix3 0 i d) : EReal) = A (ix3 ⟨if t.val % 17 = 0 then 8 else t.val / 17, by have := lt_N t; split <;> omega⟩ i d) := by
  blk_simp
  blk_ext [idx_mod t]

theorem block_g (A : FVec Ideal S1x1024 .f32) (t : Fin cfg0.N) (d : Fin 1024) :
    (((cfg0.win 5).blk t).view.read (Elt Ideal) A (ix2 0 d) : EReal) = A (ix2 0 d) := by
  blk_simp
  blk_ext [idx t]

theorem block_q (A : FVec Ideal S1024x2048 .bf16) (t : Fin cfg0.N) (k : Fin 1024) (f : Fin 2048) :
    (((cfg0.win 6).blk t).view.read (Elt Ideal) A (ix2 k f) : EReal) = A (ix2 k f) := by
  blk_simp
  blk_ext [idx t]

theorem iblk_h (c : Dev nD) (t : Fin cfg0.N) (r : Fin 256) (d : Fin 1024) :
    (iblk m c 0 t (ix3 0 r d) : EReal) = tok (inp' m c).hC (inp' m c).hL (pb t) (pt t r) d := by
  unfold iblk
  exact (block_h _ t r d).trans ((congrFun (entry_h m c) _).trans (join1024_at _ _ _ _ _))

theorem iblk_a (c : Dev nD) (t : Fin cfg0.N) (r : Fin 256) (d : Fin 512) :
    (iblk m c 1 t (ix3 0 r d) : EReal) = tok (inp' m c).aC (inp' m c).aL (pb t) (pt t r) d := by
  unfold iblk
  exact (block_a _ t r d).trans ((congrFun (entry_a m c) _).trans ((trunc_at _ _ _).trans (join512_at _ _ _ _ _)))

theorem iblk_b (c : Dev nD) (t : Fin cfg0.N) (r : Fin 256) (d : Fin 512) :
    (iblk m c 2 t (ix3 0 r d) : EReal) = tok (inp' m c).bC (inp' m c).bL (pb t) (pt t r) d := by
  unfold iblk
  exact (block_b _ t r d).trans ((congrFun (entry_b m c) _).trans ((trunc_at _ _ _).trans (join512_at _ _ _ _ _)))

theorem iblk_w (c : Dev nD) (t : Fin cfg0.N) (k d : Fin 1024) : (iblk m c 3 t (ix2 k d) : EReal) = (inp' m c).w k d := by
  unfold iblk
  exact (block_w _ t k d).trans ((congrFun (entry_w m c) _).trans (narrow_at _ _))

theorem iblk_m (c : Dev nD) (t : Fin cfg0.N) (r : Fin 256) (i : Fin 6) (d : Fin 1024) :
    (iblk m c 4 t (ix3 0 i d) : EReal) = (inp' m c).mod i (pb t) (pt t r) d := by
  unfold iblk
  refine (block_m _ t i d).trans ((congrFun (entry_m m c) _).trans ((stack_at _ _ _ i d).trans ?_))
  unfold Inp.mod
  by_cases h : t.val % 17 = 0
  · refine (dif_neg (by show ¬ (if t.val % 17 = 0 then 8 else t.val / 17) < 8; rw [if_pos h]; omega)).trans ?_
    exact (if_pos (by show t.val % 17 * 256 + (r : ℕ) < 256; omega)).symm
  · have := lt_N t
    refine (dif_pos (by show (if t.val % 17 = 0 then 8 else t.val / 17) < 8; rw [if_neg h]; omega)).trans ?_
    refine Eq.trans ?_ (if_neg (by show ¬ t.val % 17 * 256 + (r : ℕ) < 256; omega)).symm
    refine congrArg (fun j : Fin 8 => (inp' m c).mL j i d) (Fin.ext ?_)
    show (if t.val % 17 = 0 then 8 else t.val / 17) = t.val / 17
    rw [if_neg h]

theorem iblk_g (c : Dev nD) (t : Fin cfg0.N) (d : Fin 1024) : (iblk m c 5 t (ix2 0 d) : EReal) = (inp' m c).g d := by
  unfold iblk
  exact (block_g _ t d).trans ((congrFun (entry_g m c) _).trans (row_at _ d))

theorem iblk_q (c : Dev nD) (t : Fin cfg0.N) (k : Fin 1024) (f : Fin 2048) : (iblk m c 6 t (ix2 k f) : EReal) = (inp' m c).q k f := by
  unfold iblk
  exact (block_q _ t k f).trans ((congrFun (entry_q m c) _).trans (narrow_at _ _))

theorem blocks_H (c : Dev nD) (t : Fin cfg0.N) (r : Fin 256) (d : Fin 1024) :
    bH (iblk m c 0 t) (iblk m c 1 t) (iblk m c 2 t) (iblk m c 3 t) (iblk m c 4 t) r d = (inp' m c).H (pb t) (pt t r) d := by
  unfold bH Inp.H
  refine congr (congr (congr (congr (congr (congrArg hid (iblk_h m c t r d)) (iblk_m m c t r 2 d)) ?_) ?_) ?_) ?_ <;> funext k
  · exact iblk_a m c t r k
  · exact iblk_b m c t r k
  · exact iblk_w m c t _ d
  · exact iblk_w m c t _ d

theorem blocks_B (c : Dev nD) (t : Fin cfg0.N) (r : Fin 256) (d : Fin 1024) :
    bB (iblk m c 0 t) (iblk m c 1 t) (iblk m c 2 t) (iblk m c 3 t) (iblk m c 4 t) (iblk m c 5 t) r d = (inp' m c).B (pb t) (pt t r) d := by
  unfold bB Inp.B
  refine congrFun (congr (congr (congr (congrArg nrm ?_) ?_) ?_) ?_) d <;> funext k
  · exact blocks_H m c t r k
  · exact iblk_g m c t k
  · exact iblk_m m c t r 4 k
  · exact iblk_m m c t r 3 k

theorem final_H (c : Dev nD) : (dats m 0 c).arrAt 7 cfg0.N = arrH (inp' m c) := by
  refine (dats m 0 c).arrAt_eq_of_covers 7 _ (by decide +kernel) fun t _ y => ?_
  blk_simp
  rw [after0_7]
  obtain ⟨r, d, rfl⟩ : ∃ (r : Fin 256) (d : Fin 1024), y = ix3 0 r d := ⟨y 1, y 2, by idx_ext⟩
  have em : ((win0_7.blk t).view.emb (ix3 0 r d) : S8x4352x1024.Idx) = ix3 (pb t) (pt t r) d := by
    blk_ext [idx t]
  refine Eq.trans ?_ (congrArg (arrH (inp' m c)) em).symm
  exact (out_H _ _ _ _ _ _ _ r d).trans (blocks_H m c t r d)

theorem final_P (c : Dev nD) : (dats m 0 c).arrAt 8 cfg0.N = arrP (inp' m c) := by
  refine (dats m 0 c).arrAt_eq_of_covers 8 _ (by decide +kernel) fun t _ y => ?_
  blk_simp
  rw [after0_8]
  obtain ⟨r, d, rfl⟩ : ∃ (r : Fin 256) (d : Fin 2048), y = ix3 0 r d := ⟨y 1, y 2, by idx_ext⟩
  have em : ((win0_8.blk t).view.emb (ix3 0 r d) : S8x4352x2048.Idx) = ix3 (pb t) (pt t r) d := by
    blk_ext [idx t]
  refine Eq.trans ?_ (congrArg (arrP (inp' m c)) em).symm
  refine (out_P _ _ _ _ _ _ _ _).trans ?_
  show (if hl : (d : ℕ) < 1024 then _ else _ : EReal) = (inp' m c).P (pb t) (pt t r) d
  unfold Inp.P
  by_cases hl : (d : ℕ) < 1024
  · rw [dif_pos hl, dif_pos hl]; exact blocks_B m c t r _
  · rw [dif_neg hl, dif_neg hl]; exact congrArg₂ (· - ·) (blocks_B m c t r _) (blocks_B m c t r _)

theorem final_Q (c : Dev nD) : (dats m 0 c).arrAt 9 cfg0.N = arrQ (inp' m c) := by
  refine (dats m 0 c).arrAt_eq_of_covers 9 _ (by decide +kernel) fun t _ y => ?_
  blk_simp
  rw [after0_9]
  have ht := lt_N t
  idx_vars y
  have em : ((win0_9.blk t).view.emb (ix3 y0 y1 y2) : S16x34816x128.Idx) = ix3 y0 ⟨t.val * 256 + y1, by omega⟩ y2 := by
    blk_ext [idx t]
  refine Eq.trans ?_ (congrArg (arrQ (inp' m c)) em).symm
  refine (out_Q _ _ _ _ _ _ _ y0 y1 y2).trans ?_
  show _ = (inp' m c).Q y0 ⟨t.val * 256 + y1, by omega⟩ y2
  unfold Inp.Q
  refine Finset.sum_congr rfl fun k _ => congrArg₂ (· * ·) ((blocks_B m c t y1 k).trans ?_) (iblk_q m c t k _)
  exact congrArg₂ (fun (b : Fin 8) (x : Fin 4352) => (inp' m c).B b x k) (Fin.ext (by show t.val / 17 = (t.val * 256 + (y1 : ℕ)) / 4352; omega))
    (Fin.ext (by show t.val % 17 * 256 + (y1 : ℕ) = (t.val * 256 + (y1 : ℕ)) % 4352; omega))

end Cert.Route

end

end
-- ==== Proof.RouteRef.lean ====
/- The reference's three results, entry by entry, in stages: the residual, its modulated norm, the queries. -/
module

public import proofs.«01_k».proof.Proof.Gen.Reference2Ideal.Run
public import Idealize.ShloMosaic.Lib.Pipeline.ValueKit
public import proofs.«01_k».proof.Proof.RouteRow

@[expose] public section

set_option maxRecDepth 16384

noncomputable section

open Idealize.ShloMosaic Idealize.ShloMosaic.TcCoe Idealize.SL.Sem

namespace Cert.RouteRef

open Cert.Reference2Ideal Cert.Reference2Ideal.Gen Cert.Route

/-- Tokens joined. -/
def join (C : FVec Ideal S8x256x1024 .f32) (L : FVec Ideal S8x4096x1024 .f32) : FVec Ideal S8x4352x1024 .f32 :=
  concatenate S8x4352x1024 1 [⟨S8x256x1024, C⟩, ⟨S8x4096x1024, L⟩] concatenates_S8x256x1024_S8x4096x1024_S8x4352x1024_d1

/-- The head groups side by side. -/
def headsC (A B : FVec Ideal S8x256x512 .f32) : FVec Ideal S8x256x1024 .f32 :=
  concatenate S8x256x1024 2 [⟨S8x256x512, A⟩, ⟨S8x256x512, B⟩] concatenates_S8x256x512_S8x256x512_S8x256x1024_d2

def headsL (A B : FVec Ideal S8x4096x512 .f32) : FVec Ideal S8x4096x1024 .f32 :=
  concatenate S8x4096x1024 2 [⟨S8x4096x512, A⟩, ⟨S8x4096x512, B⟩] concatenates_S8x4096x512_S8x4096x512_S8x4096x1024_d2

/-- Rows of the modulation, spread over the tokens. -/
def mod2 (C : FVec Ideal S6x1024 .f32) (L : FVec Ideal S8x6x1024 .f32) : FVec Ideal S8x4352x1024 .f32 :=
  join (broadcastInDim S8x256x1024 ![2] bcast_S1024_S8x256x1024_2 (shapeCast _ (extractStridedSlice S1x1024 ![2, 0] C slices_S6x1024_S1x1024_2_0) shapeCasts_S1x1024_S1024))
    (broadcastInDim S8x4096x1024 ![0, 1, 2] bcast_S8x1x1024_S8x4096x1024_0_1_2 (broadcastInDim S8x1x1024 ![0, 2] bcast_S8x1024_S8x1x1024_0_2 (shapeCast _ (extractStridedSlice S8x1x1024 ![0, 2, 0] L slices_S8x6x1024_S8x1x1024_0_2_0) shapeCasts_S8x1x1024_S8x1024)))

def mod3 (C : FVec Ideal S6x1024 .f32) (L : FVec Ideal S8x6x1024 .f32) : FVec Ideal S8x4352x1024 .f32 :=
  join (broadcastInDim S8x256x1024 ![2] bcast_S1024_S8x256x1024_2 (shapeCast _ (extractStridedSlice S1x1024 ![3, 0] C slices_S6x1024_S1x1024_3_0) shapeCasts_S1x1024_S1024))
    (broadcastInDim S8x4096x1024 ![0, 1, 2] bcast_S8x1x1024_S8x4096x1024_0_1_2 (broadcastInDim S8x1x1024 ![0, 2] bcast_S8x1024_S8x1x1024_0_2 (shapeCast _ (extractStridedSlice S8x1x1024 ![0, 3, 0] L slices_S8x6x1024_S8x1x1024_0_3_0) shapeCasts_S8x1x1024_S8x1024)))

def mod4 (C : FVec Ideal S6x1024 .f32) (L : FVec Ideal S8x6x1024 .f32) : FVec Ideal S8x4352x1024 .f32 :=
  join (broadcastInDim S8x256x1024 ![2] bcast_S1024_S8x256x1024_2 (shapeCast _ (extractStridedSlice S1x1024 ![4, 0] C slices_S6x1024_S1x1024_4_0) shapeCasts_S1x1024_S1024))
    (broadcastInDim S8x4096x1024 ![0, 1, 2] bcast_S8x1x1024_S8x4096x1024_0_1_2 (broadcastInDim S8x1x1024 ![0, 2] bcast_S8x1024_S8x1x1024_0_2 (shapeCast _ (extractStridedSlice S8x1x1024 ![0, 4, 0] L slices_S8x6x1024_S8x1x1024_0_4_0) shapeCasts_S8x1x1024_S8x1024)))

/-- The gated residual. -/
def resid (X M O : FVec Ideal S8x4352x1024 .f32) (W : FVec Ideal S1024x1024 .f32) : FVec Ideal S8x4352x1024 .f32 :=
  addf X (mulf M (Host.dotGeneral dot_S8x4352x1024_S1024x1024_S8x4352x1024_2_0_01_1_n_n none O W))

/-- The reciprocal root of each row's mean square. -/
def root (X : FVec Ideal S8x4352x1024 .f32) : FVec Ideal S8x4352x1 .f32 :=
  Host.rsqrt (addf (Host.divf (broadcastInDim S8x4352x1 ![0, 1] bcast_S8x4352_S8x4352x1_0_1 (Host.reduceAdd (mulf X X) (constant S_ .f32 0x00000000#32) reducesTo_S8x4352x1024_S8x4352_d2 h_S_)) (broadcastInDim S8x4352x1 ![] bcast_S_S8x4352x1 (constant S_ .f32 0x44800000#32))) (broadcastInDim S8x4352x1 ![] bcast_S_S8x4352x1 (constant S_ .f32 0x358637BD#32)))

/-- The modulated norm. -/
def norm (X : FVec Ideal S8x4352x1024 .f32) (R : FVec Ideal S8x4352x1 .f32) (G : FVec Ideal S1024 .f32) (M N : FVec Ideal S8x4352x1024 .f32) : FVec Ideal S8x4352x1024 .f32 :=
  addf (mulf (mulf (mulf X (broadcastInDim S8x4352x1024 ![0, 1, 2] bcast_S8x4352x1_S8x4352x1024_0_1_2 R))
    (broadcastInDim S8x4352x1024 ![0, 1, 2] bcast_S1x1x1024_S8x4352x1024_0_1_2 (broadcastInDim S1x1x1024 ![2] bcast_S1024_S1x1x1024_2 G)))
    (addf (broadcastInDim S8x4352x1024 ![] bcast_S_S8x4352x1024 (constant S_ .f32 0x3F800000#32)) M)) N

/-- The norm and what its rounding leaves, side by side. -/
def pair (X : FVec Ideal S8x4352x1024 .f32) : FVec Ideal S8x4352x2048 .bf16 :=
  concatenate S8x4352x2048 2 [⟨S8x4352x1024, truncf .bf16 X bitsLt_bf16_f32⟩, ⟨S8x4352x1024, truncf .bf16 (subf X (extf .f32 (truncf .bf16 X bitsLt_bf16_f32) bitsLt_bf16_f32)) bitsLt_bf16_f32⟩] concatenates_S8x4352x1024_S8x4352x1024_S8x4352x2048_d2

/-- The queries, heads first. -/
def queries (X : FVec Ideal S8x4352x1024 .f32) (W : FVec Ideal S1024x2048 .f32) : FVec Ideal S16x34816x128 .bf16 :=
  truncf .bf16 (transpose S16x34816x128 [1, 0, 2] (shapeCast S34816x16x128 (Host.dotGeneral dot_S8x4352x1024_S1024x2048_S8x4352x2048_2_0_01_1_n_n none X W) shapeCasts_S8x4352x2048_S34816x16x128) transposes_S34816x16x128_S16x34816x128_1_0_2) bitsLt_bf16_f32

theorem join_at (C L) (b : Fin 8) (t : Fin 4352) (d : Fin 1024) :
    (join C L (ix3 b t d) : EReal) = tok (fun b t d => C (ix3 b t d)) (fun b t d => L (ix3 b t d)) b t d := by
  unfold tok
  pointwise [join]

theorem heads_at (AC BC AL BL) (b : Fin 8) (t : Fin 4352) (k : Fin 1024) :
    (join (headsC AC BC) (headsL AL BL) (ix3 b t k) : EReal)
      = if hk : (k : ℕ) < 512 then tok (fun b t d => AC (ix3 b t d)) (fun b t d => AL (ix3 b t d)) b t ⟨k, hk⟩
        else tok (fun b t d => BC (ix3 b t d)) (fun b t d => BL (ix3 b t d)) b t ⟨k - 512, by omega⟩ := by
  unfold tok
  pointwise [join, headsC, headsL]
  split <;> rfl

theorem mod2_at (C L) (b : Fin 8) (t : Fin 4352) (d : Fin 1024) :
    (mod2 C L (ix3 b t d) : EReal) = if (t : ℕ) < 256 then C (ix2 2 d) else L (ix3 b 2 d) := by
  pointwise [mod2, join]
  rfl

theorem mod3_at (C L) (b : Fin 8) (t : Fin 4352) (d : Fin 1024) :
    (mod3 C L (ix3 b t d) : EReal) = if (t : ℕ) < 256 then C (ix2 3 d) else L (ix3 b 3 d) := by
  pointwise [mod3, join]
  rfl

theorem mod4_at (C L) (b : Fin 8) (t : Fin 4352) (d : Fin 1024) :
    (mod4 C L (ix3 b t d) : EReal) = if (t : ℕ) < 256 then C (ix2 4 d) else L (ix3 b 4 d) := by
  pointwise [mod4, join]
  rfl

theorem resid_at (X M O W) (b : Fin 8) (t : Fin 4352) (d : Fin 1024) :
    (resid X M O W (ix3 b t d) : EReal) = X (ix3 b t d) + M (ix3 b t d) * ∑ k : Fin 1024, O (ix3 b t k) * W (ix2 k d) := by
  pointwise [resid]

theorem root_at (X) (b : Fin 8) (t : Fin 4352) :
    (root X (ix3 b t 0) : EReal)
      = Ideal.rsqrt (Ideal.div (∑ d : Fin 1024, X (ix3 b t d) * X (ix3 b t d)) (Ideal.ofBits .f32 0x44800000#32) + Ideal.ofBits .f32 0x358637BD#32) := by
  pointwise [root]

theorem norm_at (X R G M N) (b : Fin 8) (t : Fin 4352) (d : Fin 1024) :
    (norm X R G M N (ix3 b t d) : EReal)
      = X (ix3 b t d) * R (ix3 b t 0) * G (ix1 d) * (Ideal.ofBits .f32 0x3F800000#32 + M (ix3 b t d)) + N (ix3 b t d) := by
  pointwise [norm]

theorem pair_at (X) (b : Fin 8) (t : Fin 4352) (l : Fin 2048) :
    (pair X (ix3 b t l) : EReal) = if hl : (l : ℕ) < 1024 then X (ix3 b t ⟨l, hl⟩) else X (ix3 b t ⟨l - 1024, by omega⟩) - X (ix3 b t ⟨l - 1024, by omega⟩) := by
  pointwise [pair]

theorem queries_at (X W) (h : Fin 16) (n : Fin 34816) (l : Fin 128) :
    (queries X W (ix3 h n l) : EReal) = ∑ k : Fin 1024, X (ix3 ⟨n / 4352, by omega⟩ ⟨n % 4352, by omega⟩ k) * W (ix2 k ⟨h * 128 + l, by omega⟩) := by
  pointwise [queries]

section
variable (h : FVec Ideal S8x4096x1024 .f32) (hc : FVec Ideal S8x256x1024 .f32) (a b : FVec Ideal S8x4096x512 .f32) (ac bc : FVec Ideal S8x256x512 .f32)
    (ml : FVec Ideal S8x6x1024 .f32) (mc : FVec Ideal S6x1024 .f32) (w : FVec Ideal S1024x1024 .f32) (g : FVec Ideal S1024 .f32) (q : FVec Ideal S1024x2048 .f32)

/-- The residual and the norm of the reference. -/
def rH : FVec Ideal S8x4352x1024 .f32 := resid (join hc h) (mod2 mc ml) (join (headsC ac bc) (headsL a b)) w

def rB : FVec Ideal S8x4352x1024 .f32 :=
  norm (rH h hc a b ac bc ml mc w) (root (rH h hc a b ac bc ml mc w)) g (mod4 mc ml) (mod3 mc ml)

end

variable (m : (ℓ : Loc nD τ sig) → Buf (Elt Ideal) ℓ)

theorem staged_P (c : Dev nD) : Cert.Reference2Ideal.Value.res_main_v55 m c
    = pair (rB (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))) := by
  rfl

theorem staged_Q (c : Dev nD) : Cert.Reference2Ideal.Value.res_main_v56 m c
    = queries (rB (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))) (m ((c.tc : Thread nD τ).loc main_arg10)) := by
  rfl

end Cert.RouteRef

end

end
-- ==== Proof.RouteMatch.lean ====
/- The reference's results are the arrays the routing call writes. -/
module

public import proofs.«01_k».proof.Proof.RouteFinal
public import proofs.«01_k».proof.Proof.RouteRef

@[expose] public section

set_option maxRecDepth 16384

noncomputable section

open Idealize.ShloMosaic Idealize.ShloMosaic.TcCoe Idealize.SL.Sem

namespace Cert.Route

open Cert.Kernel2Ideal Cert.RouteRef

section
variable (h : FVec Ideal S8x4096x1024 .f32) (hc : FVec Ideal S8x256x1024 .f32) (a b : FVec Ideal S8x4096x512 .f32) (ac bc : FVec Ideal S8x256x512 .f32)
    (ml : FVec Ideal S8x6x1024 .f32) (mc : FVec Ideal S6x1024 .f32) (w : FVec Ideal S1024x1024 .f32) (g : FVec Ideal S1024 .f32) (q : FVec Ideal S1024x2048 .f32)

theorem match_H (i : Fin 8) (t : Fin 4352) (d : Fin 1024) :
    (rH h hc a b ac bc ml mc w (ix3 i t d) : EReal) = (inp h hc a b ac bc ml mc w g q).H i t d := by
  unfold rH Inp.H hid
  rw [RouteRef.resid_at]
  refine congrArg₂ (· + ·) (join_at _ _ _ _ _) (congrArg₂ (· * ·) (mod2_at _ _ _ _ _) ?_)
  refine (halves _).symm.trans (congrArg₂ (· + ·) ?_ ?_) <;> refine Finset.sum_congr rfl fun k _ => ?_
  · refine congrArg (· * _) ((heads_at _ _ _ _ i t _).trans ?_)
    exact dif_pos k.isLt
  · refine congrArg (· * _) ((heads_at _ _ _ _ i t _).trans ((dif_neg (by show ¬ 512 + (k : ℕ) < 512; omega)).trans ?_))
    exact congrArg (tok _ _ i t) (Fin.ext (by show 512 + (k : ℕ) - 512 = k; omega))

theorem match_B (i : Fin 8) (t : Fin 4352) (d : Fin 1024) :
    (rB h hc a b ac bc ml mc w g (ix3 i t d) : EReal) = (inp h hc a b ac bc ml mc w g q).B i t d := by
  unfold rB Inp.B nrm inv
  rw [RouteRef.norm_at, RouteRef.root_at, mean]
  have e : ∀ d, (rH h hc a b ac bc ml mc w (ix3 i t d) : EReal) = (inp h hc a b ac bc ml mc w g q).H i t d := match_H h hc a b ac bc ml mc w g q i t
  generalize rH h hc a b ac bc ml mc w = X at e ⊢
  rw [mod4_at, mod3_at, e d, Finset.sum_congr rfl fun d _ => congrArg₂ (· * ·) (e d) (e d)]
  rfl

theorem match_P (i : Fin 8) (t : Fin 4352) (l : Fin 2048) :
    (pair (rB h hc a b ac bc ml mc w g) (ix3 i t l) : EReal) = (inp h hc a b ac bc ml mc w g q).P i t l := by
  rw [pair_at]
  unfold Inp.P
  simp only [match_B h hc a b ac bc ml mc w g q i t]

theorem match_Q (i : Fin 16) (n : Fin 34816) (l : Fin 128) :
    (queries (rB h hc a b ac bc ml mc w g) q (ix3 i n l) : EReal) = (inp h hc a b ac bc ml mc w g q).Q i n l := by
  rw [queries_at]
  unfold Inp.Q
  exact Finset.sum_congr rfl fun k _ => congrArg (· * _) (match_B h hc a b ac bc ml mc w g q _ _ k)

theorem arr_H : rH h hc a b ac bc ml mc w = arrH (inp h hc a b ac bc ml mc w g q) := by
  funext y
  idx_vars y
  exact match_H h hc a b ac bc ml mc w g q y0 y1 y2

theorem arr_P : pair (rB h hc a b ac bc ml mc w g) = arrP (inp h hc a b ac bc ml mc w g q) := by
  funext y
  idx_vars y
  exact match_P h hc a b ac bc ml mc w g q y0 y1 y2

theorem arr_Q : queries (rB h hc a b ac bc ml mc w g) q = arrQ (inp h hc a b ac bc ml mc w g q) := by
  funext y
  idx_vars y
  exact match_Q h hc a b ac bc ml mc w g q y0 y1 y2

variable (m' : (ℓ : Loc Cert.Reference2Ideal.nD Cert.Reference2Ideal.τ Cert.Reference2Ideal.sig) → Buf (Elt Ideal) ℓ) (c : Dev Cert.Reference2Ideal.nD)

/-- The reference's pair of parts and its routing queries, from arguments equal to the kernel's, are the kernel's arrays. -/
theorem reference_eq
    (h0 : m' ((c.tc : Thread Cert.Reference2Ideal.nD Cert.Reference2Ideal.τ).loc Cert.Reference2Ideal.main_arg0) = h)
    (h1 : m' ((c.tc : Thread Cert.Reference2Ideal.nD Cert.Reference2Ideal.τ).loc Cert.Reference2Ideal.main_arg1) = hc)
    (h2 : m' ((c.tc : Thread Cert.Reference2Ideal.nD Cert.Reference2Ideal.τ).loc Cert.Reference2Ideal.main_arg2) = a)
    (h3 : m' ((c.tc : Thread Cert.Reference2Ideal.nD Cert.Reference2Ideal.τ).loc Cert.Reference2Ideal.main_arg3) = b)
    (h4 : m' ((c.tc : Thread Cert.Reference2Ideal.nD Cert.Reference2Ideal.τ).loc Cert.Reference2Ideal.main_arg4) = ac)
    (h5 : m' ((c.tc : Thread Cert.Reference2Ideal.nD Cert.Reference2Ideal.τ).loc Cert.Reference2Ideal.main_arg5) = bc)
    (h6 : m' ((c.tc : Thread Cert.Reference2Ideal.nD Cert.Reference2Ideal.τ).loc Cert.Reference2Ideal.main_arg6) = ml)
    (h7 : m' ((c.tc : Thread Cert.Reference2Ideal.nD Cert.Reference2Ideal.τ).loc Cert.Reference2Ideal.main_arg7) = mc)
    (h8 : m' ((c.tc : Thread Cert.Reference2Ideal.nD Cert.Reference2Ideal.τ).loc Cert.Reference2Ideal.main_arg8) = w)
    (h9 : m' ((c.tc : Thread Cert.Reference2Ideal.nD Cert.Reference2Ideal.τ).loc Cert.Reference2Ideal.main_arg9) = g)
    (h10 : m' ((c.tc : Thread Cert.Reference2Ideal.nD Cert.Reference2Ideal.τ).loc Cert.Reference2Ideal.main_arg10) = q) :
    Cert.Reference2Ideal.Value.res_main_v55 m' c = arrP (inp h hc a b ac bc ml mc w g q)
      ∧ Cert.Reference2Ideal.Value.res_main_v56 m' c = arrQ (inp h hc a b ac bc ml mc w g q) := by
  subst h0 h1 h2 h3 h4 h5 h6 h7 h8 h9 h10
  exact ⟨(staged_P m' c).trans (arr_P _ _ _ _ _ _ _ _ _ _ _), (staged_Q m' c).trans (arr_Q _ _ _ _ _ _ _ _ _ _ _)⟩

/-- Likewise for the residual stream, whose reference is written out from its arguments. -/
theorem resid_eq (h' : FVec Ideal S8x4096x1024 .f32) (hc' : FVec Ideal S8x256x1024 .f32) (a' b' : FVec Ideal S8x4096x512 .f32) (ac' bc' : FVec Ideal S8x256x512 .f32)
    (ml' : FVec Ideal S8x6x1024 .f32) (mc' : FVec Ideal S6x1024 .f32) (w' : FVec Ideal S1024x1024 .f32)
    (h0 : h' = h) (h1 : hc' = hc) (h2 : a' = a) (h3 : b' = b) (h4 : ac' = ac) (h5 : bc' = bc) (h6 : ml' = ml) (h7 : mc' = mc) (h8 : w' = w) :
    rH h' hc' a' b' ac' bc' ml' mc' w' = arrH (inp h hc a b ac bc ml mc w g q) := by
  subst h0 h1 h2 h3 h4 h5 h6 h7 h8
  exact arr_H _ _ _ _ _ _ _ _ _ _ _

end

end Cert.Route

end

end
-- ==== Proof.Modulation.lean ====
/- The modulation call: the activation of the conditioning, its product with the weights, and the bias. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem

namespace Cert.Modulation

/-- The activation `x / (1 + e⁻ˣ)`, as a product. -/
def act (x : EReal) : EReal :=
  x * Ideal.div (Ideal.ofBits .f32 0x3F800000#32) (Ideal.ofBits .f32 0x3F800000#32 + Ideal.exp (-x))

open Cert.Kernel3Ideal Cert.Kernel3Ideal.Gen

/-- The result as an array: layer, row, column. -/
def arr (x : FVec Ideal S16x1024 .f32) (w : FVec Ideal S2x1024x6144 .f32) (b : FVec Ideal S2x6144 .f32) : FVec Ideal S2x16x6144 .f32 := fun i =>
  (∑ k : Fin 1024, act (x (ix2 (i 1) k)) * w (ix3 (i 0) k (i 2))) + b (ix2 (i 0) (i 2))

theorem body_at (X : Vec Ideal S16x1024 .f32) (W : Vec Ideal S1x1024x1536 .f32) (B : Vec Ideal S1x1x1536 .f32) (r : Fin 16) (f : Fin 1536) :
    (k0_pay1 X W B (ix3 0 r f) : EReal) = (∑ k : Fin 1024, act (X (ix2 r k)) * W (ix3 0 k f)) + B (ix3 0 0 f) := by
  have z : Ideal.ofBits .f32 0x00000000#32 = 0 := by simp [Ideal.ofBits, Ideal.ieee]
  unfold act
  simp only [← zero_sub]
  pointwise [k0_pay1]

theorem ld_x (A : Vec Ideal S16x1024 .f32) (r : Fin 16) (k : Fin 1024) : View.ld A r0_0 (ix2 r k) = A (ix2 r k) := by pointwise
theorem ld_w (A : Vec Ideal S1x1024x1536 .f32) (k : Fin 1024) (f : Fin 1536) : View.ld A r0_1 (ix3 0 k f) = A (ix3 0 k f) := by pointwise
theorem ld_b (A : Vec Ideal S1x1x1536 .f32) (f : Fin 1536) : View.ld A r0_2 (ix3 0 0 f) = A (ix3 0 0 f) := by pointwise

theorem own_place (x : S1x16x1536.Idx) : x = r0_3.emb x := by
  idx_vars x
  idx_ext

theorem whole (P : Vec Ideal S1x16x1536 .f32) (y : S1x16x1536.Idx) : View.canon [⟨r0_3, P⟩] y = P y := by
  refine View.canon_apply_of_pieces P _ ?_ y (cover0_3 _ y)
  intro pc hpc
  rcases List.mem_cons.mp hpc with rfl | hpc
  · exact fun x => congrArg P (own_place x)
  nomatch hpc

theorem out_at (x0 : Vec Ideal S16x1024 .f32) (x1 : Vec Ideal S1x1024x1536 .f32) (x2 : Vec Ideal S1x1x1536 .f32) (r : Fin 16) (f : Fin 1536) :
    (out0_3 x0 x1 x2 (ix3 0 r f) : EReal) = (∑ k : Fin 1024, act (x0 (ix2 r k)) * x1 (ix3 0 k f)) + x2 (ix3 0 0 f) := by
  unfold out0_3
  refine (whole _ _).trans ((body_at _ _ _ r f).trans ?_)
  refine congrArg₂ (· + ·) (Finset.sum_congr rfl fun k _ => ?_) (ld_b x2 f)
  rw [ld_x, ld_w]

variable (m : (ℓ : Loc nD τ sig) → Buf (Elt Ideal) ℓ)

theorem entry_x (c : Dev nD) : V m c main_arg0 = m ((c.tc : Thread nD τ).loc main_arg0) := by
  unfold V
  after_results_simp

theorem entry_w (c : Dev nD) : V m c main_arg1 = m ((c.tc : Thread nD τ).loc main_arg1) := by
  unfold V
  after_results_simp

theorem entry_b (c : Dev nD) : V m c main_v0 = shapeCast S2x1x6144 (m ((c.tc : Thread nD τ).loc main_arg2) : FVec Ideal S2x6144 .f32) shapeCasts_S2x6144_S2x1x6144 := by
  unfold V
  after_results_simp; rfl

theorem bias_at (b : FVec Ideal S2x6144 .f32) (l : Fin 2) (f : Fin 6144) : (shapeCast S2x1x6144 b shapeCasts_S2x6144_S2x1x6144 (ix3 l 0 f) : EReal) = b (ix2 l f) := by
  pointwise

theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] := (by decide +kernel : ∀ t : Fin grid0.N, _)

theorem lt_N (t : Fin cfg0.N) : t.val < 8 := lt_of_lt_of_eq t.isLt N_0

/-- The layer of a grid point, and its column `f`. -/
abbrev pl (t : Fin cfg0.N) : Fin 2 := ⟨t.val / 4, by have := lt_N t; omega⟩
abbrev pf (t : Fin cfg0.N) (f : Fin 1536) : Fin 6144 := ⟨t.val % 4 * 1536 + f, by omega⟩

theorem block_x (A : FVec Ideal S16x1024 .f32) (t : Fin cfg0.N) (r : Fin 16) (k : Fin 1024) :
    (((cfg0.win 0).blk t).view.read (Elt Ideal) A (ix2 r k) : EReal) = A (ix2 r k) := by
  blk_simp
  blk_ext [idx t]

theorem block_w (A : FVec Ideal S2x1024x6144 .f32) (t : Fin cfg0.N) (k : Fin 1024) (f : Fin 1536) :
    (((cfg0.win 1).blk t).view.read (Elt Ideal) A (ix3 0 k f) : EReal) = A (ix3 (pl t) k (pf t f)) := by
  blk_simp
  blk_ext [idx t]

theorem block_b (A : FVec Ideal S2x1x6144 .f32) (t : Fin cfg0.N) (f : Fin 1536) :
    (((cfg0.win 2).blk t).view.read (Elt Ideal) A (ix3 0 0 f) : EReal) = A (ix3 (pl t) 0 (pf t f)) := by
  blk_simp
  blk_ext [idx t]

theorem final (c : Dev nD) : (dats m 0 c).arrAt 3 cfg0.N
    = arr (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  obtain ⟨r, f, rfl⟩ : ∃ (r : Fin 16) (f : Fin 1536), y = ix3 0 r f := ⟨y 1, y 2, by idx_ext⟩
  have em : ((win0_3.blk t).view.emb (ix3 0 r f) : S2x16x6144.Idx) = ix3 (pl t) r (pf t f) := by
    blk_ext [idx t]
  refine Eq.trans ?_ (congrArg (arr _ _ _) em).symm
  refine (out_at _ _ _ r f).trans (congrArg₂ (· + ·) (Finset.sum_congr rfl fun k _ => congrArg₂ (fun a b => act a * b) ?_ ?_) ?_)
  · unfold iblk
    exact (block_x _ t r k).trans (congrFun (entry_x m c) _)
  · unfold iblk
    exact (block_w _ t k f).trans (congrFun (entry_w m c) _)
  · unfold iblk
    exact (block_b _ t f).trans ((congrFun (entry_b m c) _).trans (bias_at _ _ _))

end Cert.Modulation

namespace Cert.ModulationRef

open Cert.Reference3Ideal Cert.Reference3Ideal.Gen

/-- The activated conditioning. -/
def acted (x : FVec Ideal S16x1024 .f32) : FVec Ideal S16x1024 .f32 :=
  mulf x (Host.divf (broadcastInDim S16x1024 ![] bcast_S_S16x1024 (constant S_ .f32 0x3F800000#32)) (addf (broadcastInDim S16x1024 ![] bcast_S_S16x1024 (constant S_ .f32 0x3F800000#32)) (Host.exp (Host.negf x))))

/-- Either layer's rows. -/
def first (s : FVec Ideal S16x1024 .f32) (w : FVec Ideal S2x1024x6144 .f32) (b : FVec Ideal S2x6144 .f32) : FVec Ideal S16x6144 .f32 :=
  addf (Host.dotGeneral dot_S16x1024_S1024x6144_S16x6144_1_0_0_1_n_n none s (shapeCast _ (extractStridedSlice S1x1024x6144 ![0, 0, 0] w slices_S2x1024x6144_S1x1024x6144_0_0_0) shapeCasts_S1x1024x6144_S1024x6144))
    (broadcastInDim S16x6144 ![0, 1] bcast_S1x6144_S16x6144_0_1 (broadcastInDim S1x6144 ![1] bcast_S6144_S1x6144_1 (shapeCast _ (extractStridedSlice S1x6144 ![0, 0] b slices_S2x6144_S1x6144_0_0) shapeCasts_S1x6144_S6144)))

def second (s : FVec Ideal S16x1024 .f32) (w : FVec Ideal S2x1024x6144 .f32) (b : FVec Ideal S2x6144 .f32) : FVec Ideal S16x6144 .f32 :=
  addf (Host.dotGeneral dot_S16x1024_S1024x6144_S16x6144_1_0_0_1_n_n none s (shapeCast _ (extractStridedSlice S1x1024x6144 ![1, 0, 0] w slices_S2x1024x6144_S1x1024x6144_1_0_0) shapeCasts_S1x1024x6144_S1024x6144))
    (broadcastInDim S16x6144 ![0, 1] bcast_S1x6144_S16x6144_0_1 (broadcastInDim S1x6144 ![1] bcast_S6144_S1x6144_1 (shapeCast _ (extractStridedSlice S1x6144 ![1, 0] b slices_S2x6144_S1x6144_1_0) shapeCasts_S1x6144_S6144)))

def stacked (p q : FVec Ideal S16x6144 .f32) : FVec Ideal S2x16x6144 .f32 :=
  concatenate S2x16x6144 0 [⟨S1x16x6144, (broadcastInDim S1x16x6144 ![1, 2] bcast_S16x6144_S1x16x6144_1_2 p)⟩, ⟨S1x16x6144, (broadcastInDim S1x16x6144 ![1, 2] bcast_S16x6144_S1x16x6144_1_2 q)⟩] concatenates_S1x16x6144_S1x16x6144_S2x16x6144_d0

theorem acted_at (x) (r : Fin 16) (k : Fin 1024) : (acted x (ix2 r k) : EReal) = Modulation.act (x (ix2 r k)) := by
  unfold Modulation.act
  pointwise [acted]

theorem first_at (s w b) (r : Fin 16) (f : Fin 6144) :
    (first s w b (ix2 r f) : EReal) = (∑ k : Fin 1024, s (ix2 r k) * w (ix3 0 k f)) + b (ix2 0 f) := by
  pointwise [first]

theorem second_at (s w b) (r : Fin 16) (f : Fin 6144) :
    (second s w b (ix2 r f) : EReal) = (∑ k : Fin 1024, s (ix2 r k) * w (ix3 1 k f)) + b (ix2 1 f) := by
  pointwise [second]

theorem stacked_at (p q) (l : Fin 2) (r : Fin 16) (f : Fin 6144) :
    (stacked p q (ix3 l r f) : EReal) = if (l : ℕ) < 1 then p (ix2 r f) else q (ix2 r f) := by
  pointwise [stacked]
  rfl

/-- The reference's array, from arguments equal to the kernel's, is the kernel's. -/
theorem eq (x : FVec Ideal S16x1024 .f32) (w : FVec Ideal S2x1024x6144 .f32) (b b' : FVec Ideal S2x6144 .f32) (hb : b' = b) :
    stacked (first (acted x) w b') (second (acted x) w b') = Modulation.arr x w b := by
  subst hb
  funext y
  idx_vars y
  refine (stacked_at _ _ y0 y1 y2).trans ?_
  have e : ∀ k : Fin 1024, (acted x (ix2 y1 k) : EReal) = Modulation.act (x (ix2 y1 k)) := acted_at x y1
  unfold Modulation.arr
  have hy : y0 = 0 ∨ y0 = 1 := by omega
  rcases hy with rfl | rfl
  · refine (first_at _ _ _ y1 y2).trans ?_
    simp only [e]
    rfl
  · refine (second_at _ _ _ y1 y2).trans ?_
    simp only [e]
    rfl

end Cert.ModulationRef

end

end
-- ==== Proof.Residual.lean ====
/- The gated residual call: one half of the rows of the residual stream, each with the gated combination added. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem

namespace Cert.Residual

open Cert.Kernel4Ideal Cert.Kernel4Ideal.Gen

/-- The sample of a row of the half, and its place in the sample. -/
abbrev smp (n : Fin 16384) : Fin 8 := ⟨4 + n.val / 4096, by omega⟩
abbrev plc (n : Fin 16384) : Fin 4096 := ⟨n.val % 4096, by omega⟩

/-- The result as an array: row of the half, column. -/
def arr (h : FVec Ideal S8x4096x1024 .f32) (g : FVec Ideal S9x6x1024 .f32) (a : FVec Ideal S16384x1024 .f32) : FVec Ideal S16384x1024 .f32 := fun i =>
  h (ix3 (smp (i 0)) (plc (i 0)) (i 1)) + g (ix3 ⟨4 + (i 0).val / 4096, by have : (i 0).val < 16384 := (i 0).isLt; omega⟩ 5 (i 1)) * a (ix2 (i 0) (i 1))

theorem body_at (X : Vec Ideal S256x1024 .f32) (G : Vec Ideal S1x1x1x1024 .f32) (A : Vec Ideal S256x1024 .f32) (r : Fin 256) (d : Fin 1024) :
    (k0_pay1 X G A (ix2 r d) : EReal) = X (ix2 r d) + G (ix4 0 0 0 d) * A (ix2 r d) := by
  pointwise [k0_pay1]

theorem ld_x (A : Vec Ideal S256x1024 .f32) (r : Fin 256) (d : Fin 1024) : View.ld A r0_0 (ix2 r d) = A (ix2 r d) := by pointwise
theorem ld_g (A : Vec Ideal S1x1x1x1024 .f32) (d : Fin 1024) : View.ld A r0_1 (ix4 0 0 0 d) = A (ix4 0 0 0 d) := by pointwise

theorem own_place (x : S256x1024.Idx) : x = r0_0.emb x := by
  idx_vars x
  idx_ext

theorem whole (P : Vec Ideal S256x1024 .f32) (y : S256x1024.Idx) : View.canon [⟨r0_0, P⟩] y = P y := by
  refine View.canon_apply_of_pieces P _ ?_ y (cover0_3 _ y)
  intro pc hpc
  rcases List.mem_cons.mp hpc with rfl | hpc
  · exact fun x => congrArg P (own_place x)
  nomatch hpc

theorem out_at (x0 : Vec Ideal S256x1024 .f32) (x1 : Vec Ideal S1x1x1x1024 .f32) (x2 : Vec Ideal S256x1024 .f32) (r : Fin 256) (d : Fin 1024) :
    (out0_3 x0 x1 x2 (ix2 r d) : EReal) = x0 (ix2 r d) + x1 (ix4 0 0 0 d) * x2 (ix2 r d) := by
  unfold out0_3
  refine (whole _ _).trans ((body_at _ _ _ r d).trans ?_)
  rw [ld_x, ld_x, ld_g]

variable (m : (ℓ : Loc nD τ sig) → Buf (Elt Ideal) ℓ)

/-- The half's rows of the residual stream. -/
def rows (h : FVec Ideal S8x4096x1024 .f32) : FVec Ideal S16384x1024 .f32 :=
  extractStridedSlice S16384x1024 ![16384, 0] (shapeCast S32768x1024 h shapeCasts_S8x4096x1024_S32768x1024) slices_S32768x1024_S16384x1024_16384_0

/-- The two gates of each sample. -/
def ctxGate (g : FVec Ideal S9x6x1024 .f32) : FVec Ideal S8x1x1024 .f32 :=
  broadcastInDim S8x1x1024 ![0, 2] bcast_S8x1024_S8x1x1024_0_2 (broadcastInDim S8x1024 ![1] bcast_S1024_S8x1024_1 (shapeCast S1024 (extractStridedSlice S1x1x1024 ![8, 5, 0] g slices_S9x6x1024_S1x1x1024_8_5_0) shapeCasts_S1x1x1024_S1024))

def ownGate (g : FVec Ideal S9x6x1024 .f32) : FVec Ideal S8x1x1024 .f32 :=
  broadcastInDim S8x1x1024 ![0, 2] bcast_S8x1024_S8x1x1024_0_2 (shapeCast S8x1024 (extractStridedSlice S8x1x1024 ![0, 5, 0] g slices_S9x6x1024_S8x1x1024_0_5_0) shapeCasts_S8x1x1024_S8x1024)

def gates (p q : FVec Ideal S8x1x1024 .f32) : FVec Ideal S8x2x1x1024 .f32 :=
  shapeCast S8x2x1x1024 (concatenate S8x2x1024 1 [⟨S8x1x1024, p⟩, ⟨S8x1x1024, q⟩] concatenates_S8x1x1024_S8x1x1024_S8x2x1024_d1) shapeCasts_S8x2x1024_S8x2x1x1024

theorem join_gates {p q p' q' : FVec Ideal S8x1x1024 .f32} (hp : p = p') (hq : q = q') : gates p q = gates p' q' := by
  subst hp hq
  rfl

theorem entry_h (c : Dev nD) : V m c main_v9 = rows (m ((c.tc : Thread nD τ).loc main_arg0)) := by
  unfold V
  after_results_simp; rfl

theorem entry_a (c : Dev nD) : V m c main_arg2 = m ((c.tc : Thread nD τ).loc main_arg2) := by
  unfold V
  after_results_simp

theorem entry_g (c : Dev nD) : V m c main_v10 = gates (ctxGate (m ((c.tc : Thread nD τ).loc main_arg1))) (ownGate (m ((c.tc : Thread nD τ).loc main_arg1))) := by
  unfold V
  after_results_simp
  refine join_gates ?_ ?_ <;> after_results_simp <;> rfl

theorem rows_at (h) (n : Fin 16384) (d : Fin 1024) : (rows h (ix2 n d) : EReal) = h (ix3 (smp n) (plc n) d) := by
  have e : (⟨(16384 + n.val) / 4096, by omega⟩ : Fin 8) = smp n := Fin.ext (by show (16384 + n.val) / 4096 = 4 + n.val / 4096; omega)
  have e' : (⟨(16384 + n.val) % 4096, by omega⟩ : Fin 4096) = plc n := Fin.ext (by show (16384 + n.val) % 4096 = n.val % 4096; omega)
  rw [← e, ← e']
  pointwise [rows]

theorem ownGate_at (g) (b : Fin 8) (d : Fin 1024) : (ownGate g (ix3 b 0 d) : EReal) = g (ix3 ⟨b, by omega⟩ 5 d) := by
  pointwise [ownGate]

theorem gates_at (p q) (b : Fin 8) (d : Fin 1024) : (gates p q (ix4 b 1 0 d) : EReal) = q (ix3 b 0 d) := by
  pointwise [gates]

theorem idx : ∀ t : Fin cfg0.N, win0_0.index t = ![t.val, 0] ∧ win0_1.index t = ![(t.val + 64) / 16, 1, 0, 0] ∧ win0_2.index t = ![t.val, 0]
    ∧ win0_3.index t = ![t.val, 0] := (by decide +kernel : ∀ t : Fin grid0.N, _)

theorem lt_N (t : Fin cfg0.N) : t.val < 64 := lt_of_lt_of_eq t.isLt N_0

/-- Row `r` of a grid point's block, and the block's sample. -/
abbrev row (t : Fin cfg0.N) (r : Fin 256) : Fin 16384 := ⟨t.val * 256 + r, by have := lt_N t; omega⟩
abbrev own (t : Fin cfg0.N) : Fin 8 := ⟨(t.val + 64) / 16, by have := lt_N t; omega⟩

theorem block_h (A : FVec Ideal S16384x1024 .f32) (t : Fin cfg0.N) (r : Fin 256) (d : Fin 1024) :
    (((cfg0.win 0).blk t).view.read (Elt Ideal) A (ix2 r d) : EReal) = A (ix2 (row t r) d) := by
  blk_simp
  blk_ext [idx t]

theorem block_g (A : FVec Ideal S8x2x1x1024 .f32) (t : Fin cfg0.N) (d : Fin 1024) :
    (((cfg0.win 1).blk t).view.read (Elt Ideal) A (ix4 0 0 0 d) : EReal) = A (ix4 (own t) 1 0 d) := by
  blk_simp
  blk_ext [idx t]

theorem block_a (A : FVec Ideal S16384x1024 .f32) (t : Fin cfg0.N) (r : Fin 256) (d : Fin 1024) :
    (((cfg0.win 2).blk t).view.read (Elt Ideal) A (ix2 r d) : EReal) = A (ix2 (row t r) d) := by
  blk_simp
  blk_ext [idx t]

theorem own_eq (t : Fin cfg0.N) (r : Fin 256) : (⟨(own t).val, by have := (own t).isLt; omega⟩ : Fin 9) = ⟨4 + (row t r).val / 4096, by have := (row t r).isLt; omega⟩ := by
  have := lt_N t
  exact Fin.ext (by show (t.val + 64) / 16 = 4 + (t.val * 256 + r.val) / 4096; omega)

theorem final (c : Dev nD) : (dats m 0 c).arrAt 3 cfg0.N
    = arr (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  obtain ⟨r, d, rfl⟩ : ∃ (r : Fin 256) (d : Fin 1024), y = ix2 r d := ⟨y 0, y 1, by idx_ext⟩
  have em : ((win0_3.blk t).view.emb (ix2 r d) : S16384x1024.Idx) = ix2 (row t r) d := by
    blk_ext [idx t]
  refine Eq.trans ?_ (congrArg (arr _ _ _) em).symm
  refine (out_at _ _ _ r d).trans (congrArg₂ (· + ·) ?_ (congrArg₂ (· * ·) ?_ ?_))
  · unfold iblk
    exact (block_h _ t r d).trans ((congrFun (entry_h m c) _).trans (rows_at _ _ _))
  · unfold iblk
    refine (block_g _ t d).trans ((congrFun (entry_g m c) _).trans ((gates_at _ _ _ _).trans ((ownGate_at _ _ _).trans ?_)))
    exact congrArg (fun z => (m ((c.tc : Thread nD τ).loc main_arg1) : FVec Ideal S9x6x1024 .f32) (ix3 z 5 d)) (own_eq t r)
  · unfold iblk
    exact (block_a _ t r d).trans (congrFun (entry_a m c) _)

end Cert.Residual

namespace Cert.ResidualRef

open Cert.Reference4Ideal Cert.Reference4Ideal.Gen

/-- The reference's result from its arguments. -/
def rows (h : FVec Ideal S8x4096x1024 .f32) (g : FVec Ideal S9x6x1024 .f32) (a : FVec Ideal S16384x1024 .f32) : FVec Ideal S16384x1024 .f32 :=
  shapeCast S16384x1024 (addf (extractStridedSlice S4x4096x1024 ![4, 0, 0] h slices_S8x4096x1024_S4x4096x1024_4_0_0)
    (mulf (broadcastInDim S4x4096x1024 ![0, 1, 2] bcast_S4x1x1024_S4x4096x1024_0_1_2 (broadcastInDim S4x1x1024 ![0, 2] bcast_S4x1024_S4x1x1024_0_2
      (shapeCast S4x1024 (extractStridedSlice S4x1x1024 ![4, 5, 0] g slices_S9x6x1024_S4x1x1024_4_5_0) shapeCasts_S4x1x1024_S4x1024)))
      (shapeCast S4x4096x1024 a shapeCasts_S16384x1024_S4x4096x1024))) shapeCasts_S4x4096x1024_S16384x1024

theorem eq (h : FVec Ideal S8x4096x1024 .f32) (g : FVec Ideal S9x6x1024 .f32) (a : FVec Ideal S16384x1024 .f32) : rows h g a = Residual.arr h g a := by
  funext y
  idx_vars y
  unfold Residual.arr
  pointwise [rows]

end Cert.ResidualRef

end

end
-- ==== Proof.Pre.lean ====
/- What the precondition says: every query and key entry is a real number. -/
module

public import proofs.«01_k».proof.Proof.Gen.Pre_finite
public import Idealize.ShloMosaic.Lib.ReduceAll
public import Idealize.ShloMosaic.PureOps.Ideal

@[expose] public section

set_option maxRecDepth 16384

noncomputable section

open Idealize.ShloMosaic

namespace Cert.MlaPre

open Cert.Pre_finite Cert.Pre_finite.Gen

theorem inf : Ideal.ofBits .f32 0x7F800000#32 = (⊤ : EReal) := by
  simp [Ideal.ofBits, Ideal.ieee]

/-- A value whose magnitude compares below infinity is real. -/
theorem real_of_lt (x : EReal) (h : Ideal.cmp .olt (max x (-x)) (Ideal.ofBits .f32 0x7F800000#32) = 1#1) : ∃ r : ℝ, x = r := by
  rw [inf] at h
  induction x with
  | bot => simp [Ideal.cmp] at h
  | coe r => exact ⟨r, rfl⟩
  | top => simp [Ideal.cmp] at h

theorem and_one : ∀ a b : BitVec 1, a &&& b = 1#1 → a = 1#1 ∧ b = 1#1 := by decide

theorem facts_of (q k : FVec Ideal S8x4096x8x96 .f32) (v : FVec Ideal S8x4096x8x64 .f32) (qc kc : FVec Ideal S8x256x8x96 .f32) (vc : FVec Ideal S8x256x8x64 .f32)
    (i : S_.Idx) (h : fn (F := Ideal) q k v qc kc vc i = 1#1) :
    (∀ i, ∃ r : ℝ, q i = r) ∧ (∀ i, ∃ r : ℝ, k i = r) ∧ (∀ i, ∃ r : ℝ, qc i = r) ∧ (∀ i, ∃ r : ℝ, kc i = r) := by
  dsimp only [fn, fn_part1] at h
  obtain ⟨h, h4⟩ := and_one _ _ h
  obtain ⟨h, h3⟩ := and_one _ _ h
  obtain ⟨h1, h2⟩ := and_one _ _ h
  haveI : Subsingleton S_.Idx := ⟨fun a b => funext fun d => d.elim0⟩
  exact ⟨fun j => real_of_lt _ (Host.reduce_andi_all _ _ _ _ i h1 j), fun j => real_of_lt _ (Host.reduce_andi_all _ _ _ _ i h2 j),
    fun j => real_of_lt _ (Host.reduce_andi_all _ _ _ _ i h3 j), fun j => real_of_lt _ (Host.reduce_andi_all _ _ _ _ i h4 j)⟩

end Cert.MlaPre

end

end
-- ==== Proof.SinkRow.lean ====
/- One row of softmax attention with a sink over the extended reals: the form of the kernel (context keys and local
   keys apart, one division at the end) and the textbook form both come to weights free of the row's greatest logit. -/
module

public import proofs.«01_k».proof.Proof.Row

@[expose] public section

set_option maxRecDepth 16384

noncomputable section

open Idealize.ShloMosaic

namespace Cert.Sink

/-- The exponential of a logit, zero at minus infinity. -/
def ew (s : EReal) : ℝ := if s = ⊥ then 0 else Real.exp s.toReal

theorem ew_bot : ew ⊥ = 0 := if_pos rfl

theorem ew_nonneg (s : EReal) : 0 ≤ ew s := by
  unfold ew; split
  · exact le_rfl
  · exact (Real.exp_pos _).le

theorem ew_pos (s : EReal) (h : s ≠ ⊥) : 0 < ew s := by
  unfold ew; rw [if_neg h]; exact Real.exp_pos _

theorem exp_sub (s : EReal) (hs : s ≠ ⊤) (μ : ℝ) : Ideal.exp (s - (μ : EReal)) = ((ew s * Real.exp (-μ) : ℝ) : EReal) := by
  induction s with
  | bot => rw [EReal.bot_sub, Ideal.exp_bot, ew_bot, zero_mul, EReal.coe_zero]
  | coe r =>
    rw [← EReal.coe_sub, Ideal.exp_coe]
    unfold ew
    rw [if_neg (EReal.coe_ne_bot r), EReal.toReal_coe, ← Real.exp_add, sub_eq_add_neg]
  | top => exact absurd rfl hs

theorem fold_ne_top {n : ℕ} (s : Fin n → EReal) (h : ∀ x, s x ≠ ⊤) : Finset.fold max (⊥ : EReal) s Finset.univ ≠ ⊤ :=
  ne_of_lt (Finset.fold_max_lt _ |>.2 ⟨bot_lt_top, fun x _ => lt_top_iff_ne_top.2 (h x)⟩)

/-- The row with weights free of the greatest logit. -/
def row {a b : ℕ} (s : Fin a → EReal) (l : Fin b → EReal) (z : EReal) (vc : Fin a → EReal) (vl : Fin b → EReal) : EReal :=
  (∑ x, vc x * ((ew (s x) / ((∑ y, ew (s y)) + (∑ y, ew (l y)) + ew z) : ℝ) : EReal))
    + ∑ x, vl x * ((ew (l x) / ((∑ y, ew (s y)) + (∑ y, ew (l y)) + ew z) : ℝ) : EReal)

/-- The greatest logit as the kernel takes it. -/
def kM {a b : ℕ} (s : Fin a → EReal) (l : Fin b → EReal) (z : EReal) : EReal :=
  max (max (Finset.fold max (Ideal.ofBits .f32 0xFF800000#32) s Finset.univ) (Finset.fold max (Ideal.ofBits .f32 0xFF800000#32) l Finset.univ)) z

/-- The reciprocal of the sum of the weights as the kernel takes it. -/
def kInv {a b : ℕ} (s : Fin a → EReal) (l : Fin b → EReal) (z : EReal) : EReal :=
  Ideal.div 1 ((∑ x, Ideal.exp (s x - kM s l z)) + (∑ x, Ideal.exp (l x - kM s l z)) + Ideal.exp (z - kM s l z))

/-- The row as the kernel computes it. -/
def kRow {a b : ℕ} (s : Fin a → EReal) (l : Fin b → EReal) (z : EReal) (vc : Fin a → EReal) (vl : Fin b → EReal) : EReal :=
  ((∑ x, Ideal.exp (s x - kM s l z) * vc x) + (∑ x, Ideal.exp (l x - kM s l z) * vl x)) * kInv s l z

theorem kRow_zero {a b : ℕ} (s : Fin a → EReal) (l : Fin b → EReal) (z : EReal) (vc : Fin a → EReal) (vl : Fin b → EReal)
    (hc : ∀ x, vc x = 0) (hl : ∀ x, vl x = 0) : kRow s l z vc vl = 0 := by
  unfold kRow; simp [hc, hl]

theorem kRow_eq {a b : ℕ} (s : Fin a → EReal) (l : Fin b → EReal) (z : EReal) (vc : Fin a → EReal) (vl : Fin b → EReal)
    (hs : ∀ x, s x ≠ ⊤) (hl : ∀ x, l x ≠ ⊤) (hz : ∃ r : ℝ, z = r) : kRow s l z vc vl = row s l z vc vl := by
  obtain ⟨ζ, rfl⟩ := hz
  have hM : ∃ μ : ℝ, kM s l (ζ : EReal) = μ := by
    have h1 : kM s l (ζ : EReal) ≠ ⊤ := by
      unfold kM
      rw [Row.negInf]
      exact ne_of_lt (max_lt (max_lt (lt_top_iff_ne_top.2 (fold_ne_top s hs)) (lt_top_iff_ne_top.2 (fold_ne_top l hl))) (EReal.coe_lt_top ζ))
    have h2 : kM s l (ζ : EReal) ≠ ⊥ := ne_of_gt (lt_of_lt_of_le (EReal.bot_lt_coe ζ) (le_max_right _ _))
    exact ⟨_, (EReal.coe_toReal h1 h2).symm⟩
  obtain ⟨μ, hμ⟩ := hM
  have hE : 0 < Real.exp (-μ) := Real.exp_pos _
  have hD : 0 < (∑ y, ew (s y)) + (∑ y, ew (l y)) + ew (ζ : EReal) :=
    add_pos_of_nonneg_of_pos (add_nonneg (Finset.sum_nonneg fun x _ => ew_nonneg _) (Finset.sum_nonneg fun x _ => ew_nonneg _))
      (ew_pos _ (EReal.coe_ne_bot ζ))
  unfold kRow kInv row
  simp only [hμ, exp_sub _ (hs _), exp_sub _ (hl _), exp_sub _ (EReal.coe_ne_top ζ)]
  rw [Row.sum_coe, Row.sum_coe, ← EReal.coe_add, ← EReal.coe_add, ← Finset.sum_mul, ← Finset.sum_mul, ← add_mul, ← add_mul,
    Ideal.div_coe (mul_pos hD hE).ne', one_mul, EReal.right_distrib_of_nonneg_of_ne_top (EReal.coe_nonneg.2 (by positivity)) (EReal.coe_ne_top _),
    Row.sum_mul_coe _ _ (by positivity), Row.sum_mul_coe _ _ (by positivity)]
  congr 1
  · refine Finset.sum_congr rfl fun x _ => ?_
    rw [mul_comm _ (vc x), mul_assoc, ← EReal.coe_mul]
    congr 2
    field_simp
  · refine Finset.sum_congr rfl fun x _ => ?_
    rw [mul_comm _ (vl x), mul_assoc, ← EReal.coe_mul]
    congr 2
    field_simp

/-- A weight of the textbook softmax is the weight free of the greatest logit. -/
theorem weight {n : ℕ} (w : Fin n → EReal) (hw : ∀ x, w x ≠ ⊤) (x₀ : Fin n) (h₀ : w x₀ ≠ ⊥) (x : Fin n) :
    Ideal.div (Ideal.exp (w x - max (Ideal.ofBits .f32 0xFF800000#32) (Finset.fold max (Ideal.ofBits .f32 0xFF800000#32) w Finset.univ)))
        (0 + ∑ y, Ideal.exp (w y - max (Ideal.ofBits .f32 0xFF800000#32) (Finset.fold max (Ideal.ofBits .f32 0xFF800000#32) w Finset.univ)))
      = ((ew (w x) / ∑ y, ew (w y) : ℝ) : EReal) := by
  rw [Row.negInf, max_eq_right bot_le]
  obtain ⟨μ, hμ⟩ : ∃ μ : ℝ, Finset.fold max (⊥ : EReal) w Finset.univ = μ := by
    have h2 : Finset.fold max (⊥ : EReal) w Finset.univ ≠ ⊥ :=
      ne_of_gt (lt_of_lt_of_le (bot_lt_iff_ne_bot.2 h₀) (Finset.le_fold_max _ |>.2 (Or.inr ⟨x₀, Finset.mem_univ _, le_rfl⟩)))
    exact ⟨_, (EReal.coe_toReal (fold_ne_top w hw) h2).symm⟩
  have hE : 0 < Real.exp (-μ) := Real.exp_pos _
  have hD : 0 < ∑ y, ew (w y) := Finset.sum_pos' (fun y _ => ew_nonneg _) ⟨x₀, Finset.mem_univ _, ew_pos _ h₀⟩
  simp only [hμ, exp_sub _ (hw _)]
  rw [Row.sum_coe, zero_add, ← Finset.sum_mul, Ideal.div_coe (mul_pos hD hE).ne', ← EReal.coe_mul]
  congr 1
  field_simp

/-- The sum of the weights over context keys, local keys and the sink in one row. -/
theorem split {a b : ℕ} (w : Fin (a + b + 1) → EReal) :
    ∑ y, ew (w y) = (∑ x : Fin a, ew (w (Fin.castAdd 1 (Fin.castAdd b x)))) + (∑ x : Fin b, ew (w (Fin.castAdd 1 (Fin.natAdd a x)))) + ew (w (Fin.natAdd (a + b) 0)) := by
  rw [Fin.sum_univ_add, Fin.sum_univ_add]; simp

/-- Local keys at minus infinity drop out: the row over the keys of a window alone. -/
theorem row_window {a b n : ℕ} (s : Fin a → EReal) (l : Fin b → EReal) (l' : Fin n → EReal) (z : EReal) (vc : Fin a → EReal) (vl : Fin b → EReal) (vl' : Fin n → EReal)
    (e : Fin n → Fin b) (he : Function.Injective e) (hl : ∀ x, l' x = l (e x)) (hv : ∀ x, vl' x = vl (e x)) (h : ∀ j, j ∉ Set.range e → l j = ⊥) :
    row s l' z vc vl' = row s l z vc vl := by
  have hS : ∑ y, ew (l' y) = ∑ y, ew (l y) :=
    Fintype.sum_of_injective e he _ _ (fun j hj => by rw [h j hj, ew_bot]) fun x => by rw [hl]
  unfold row
  rw [hS]
  congr 1
  refine Fintype.sum_of_injective e he _ _ (fun j hj => ?_) fun x => ?_
  · rw [h j hj, ew_bot, zero_div, EReal.coe_zero, mul_zero]
  · rw [hl, hv]

end Cert.Sink

end

end
-- ==== Proof.SinkBlock.lean ====
/- What a grid point of windowed attention computes from its blocks. -/
module

public import proofs.«01_k».proof.Proof.Gen.Kernel5Ideal.Value
public import Idealize.ShloMosaic.Lib.Pipeline.ValueKit
public import proofs.«01_k».proof.Proof.SinkRow

@[expose] public section

set_option maxRecDepth 16384

noncomputable section

open Idealize.ShloMosaic Idealize.ShloMosaic.TcCoe Idealize.SL.Sem

namespace Cert.Sink

open Cert.Kernel5Ideal Cert.Kernel5Ideal.Gen

/-- Row numbers of the stacked queries of a group. -/
abbrev rows : IVec S512x1 32 := iota .tc S512x1 32 [0] iota_S512x1_d0_w32

/-- The sink column from the four sinks of a group. -/
def sinks (e0 e1 e2 e3 : EReal) : FVec Ideal S512x1 .f32 :=
  k0_pay10 (k0_pay8 rows (k0_pay5 rows (k0_pay3 (F := Ideal) e0) 128#32 k0_pay4 e1) 128#32 (k0_pay6 rows) (k0_pay7 rows) e2) (k0_pay9 rows) e3

theorem group_at (i : Fin 4) (q : Fin 128) :
    Scalar.select (IntOp.andi (IntOp.cmpi .ne
          (IntOp.subi (BitVec.setWidth 32 (IntOp.cmpi .sgt (BitVec.ofNat 32 (128 * (i : ℕ) + q)) 0#32)) (BitVec.setWidth 32 (IntOp.cmpi .slt (BitVec.ofNat 32 (128 * (i : ℕ) + q)) 0#32)))
          (Scalar.subi (Scalar.extui (Scalar.cmpi .sgt 128#32 0#32)) (Scalar.extui (Scalar.cmpi .slt 128#32 0#32))))
        (IntOp.cmpi .ne (IntOp.remsi ArithUnit.vector (BitVec.ofNat 32 (128 * (i : ℕ) + q)) 128#32) 0#32))
      (IntOp.subi (IntOp.divsi ArithUnit.vector (BitVec.ofNat 32 (128 * (i : ℕ) + q)) 128#32) 1#32)
      (IntOp.divsi ArithUnit.vector (BitVec.ofNat 32 (128 * (i : ℕ) + q)) 128#32) = BitVec.ofNat 32 i := by
  revert i q; decide +kernel

theorem sinks_at (e0 e1 e2 e3 : EReal) (i : Fin 4) (q : Fin 128) :
    (sinks e0 e1 e2 e3 (ix2 ⟨128 * i + q, by omega⟩ 0) : EReal) = if (i : ℕ) = 0 then e0 else if (i : ℕ) = 1 then e1 else if (i : ℕ) = 2 then e2 else e3 := by
  unfold sinks
  pointwise [k0_pay10, k0_pay8, k0_pay5, k0_pay3, k0_pay4, k0_pay6, k0_pay7, k0_pay9]
  simp only [group_at]
  fin_cases i <;> rfl

theorem pay2_at (A : Vec Ideal S1x4x128x128 .bf16) (i : Fin 4) (q d : Fin 128) :
    (k0_pay2 A (ix2 ⟨128 * i + q, by omega⟩ d) : EReal) = A (ix4 0 i q d) := by
  pointwise [k0_pay2]

theorem pay11_at (A : FVec Ideal S512x128 .bf16) (K : Vec Ideal S1x1x256x128 .bf16) (r : Fin 512) (x : Fin 256) :
    (k0_pay11 A K (ix2 r x) : EReal) = ∑ d : Fin 128, (A (ix2 r d) : EReal) * K (ix4 0 0 x d) := by
  pointwise [k0_pay11]

theorem pay12_at (A : FVec Ideal S512x128 .bf16) (K : Vec Ideal S1x1x384x128 .bf16) (r : Fin 512) (x : Fin 384) :
    (k0_pay12 A K (ix2 r x) : EReal) = ∑ d : Fin 128, (A (ix2 r d) : EReal) * K (ix4 0 0 x d) := by
  pointwise [k0_pay12]

variable (Z : FVec Ideal S512x1 .f32) (S : FVec Ideal S512x256 .f32) (L : FVec Ideal S512x384 .f32) (a : IVec S512x1 32) (b : IVec S1x384 32) (e f : BitVec 32)

theorem pay16_at (r : Fin 512) :
    (k0_pay16 Z S L a b e f (ix2 r 0) : EReal) = kM (fun x : Fin 256 => (S (ix2 r x) : EReal)) (fun x : Fin 384 => (k0_pay15 L a b e f (ix2 r x) : EReal)) (Z (ix2 r 0)) := by
  pointwise [k0_pay16]
  rfl

theorem pay20_at (r : Fin 512) (x : Fin 256) :
    (k0_pay20 Z S L a b e f (ix2 r x) : EReal) = Ideal.exp ((S (ix2 r x) : EReal) - k0_pay16 Z S L a b e f (ix2 r 0)) := by
  pointwise [k0_pay20, k0_pay17]

theorem pay21_at (r : Fin 512) (x : Fin 384) :
    (k0_pay21 Z S L a b e f (ix2 r x) : EReal) = Ideal.exp ((k0_pay15 L a b e f (ix2 r x) : EReal) - k0_pay16 Z S L a b e f (ix2 r 0)) := by
  pointwise [k0_pay21, k0_pay18]

theorem pay19_at (r : Fin 512) :
    (k0_pay19 Z S L a b e f (ix2 r 0) : EReal) = Ideal.div 1 ((∑ x : Fin 256, Ideal.exp ((S (ix2 r x) : EReal) - k0_pay16 Z S L a b e f (ix2 r 0)))
      + (∑ x : Fin 384, Ideal.exp ((k0_pay15 L a b e f (ix2 r x) : EReal) - k0_pay16 Z S L a b e f (ix2 r 0)))
      + Ideal.exp ((Z (ix2 r 0) : EReal) - k0_pay16 Z S L a b e f (ix2 r 0))) := by
  pointwise [k0_pay19, k0_pay17, k0_pay18]

/-- One head's rows from the weights of the stacked rows. -/
def head (I : FVec Ideal S512x1 .f32) (P : FVec Ideal S512x256 .bf16) (R : FVec Ideal S512x384 .bf16) (r : Fin 512) (vc : Fin 256 → EReal) (vl : Fin 384 → EReal) : EReal :=
  ((∑ x, (P (ix2 r x) : EReal) * vc x) + ∑ x, (R (ix2 r x) : EReal) * vl x) * I (ix2 r 0)

theorem pay_lo (I : FVec Ideal S512x1 .f32) (C0 D0 : Vec Ideal S1x1x256x128 .bf16) (C1 D1 : Vec Ideal S1x1x384x128 .bf16) (X2 X4 X6) (q l : Fin 128) :
    (k0_pay1 I (k0_pay24 I (k0_pay20 Z S L a b e f) (k0_pay21 Z S L a b e f) (k0_pay22 Z S L a b e f C0) (k0_pay23 Z S L a b e f C1) D0 D1) X2 X4 (k0_pay27 (k0_pay21 Z S L a b e f)) X6 (ix3 0 q ⟨l, by omega⟩) : EReal)
      = head I (k0_pay20 Z S L a b e f) (k0_pay21 Z S L a b e f) ⟨q, by omega⟩ (fun x => (C0 (ix4 0 0 x l) : EReal)) (fun x => (C1 (ix4 0 0 x l) : EReal))
        + head I (k0_pay20 Z S L a b e f) (k0_pay21 Z S L a b e f) ⟨128 + q, by omega⟩ (fun x => (D0 (ix4 0 0 x l) : EReal)) (fun x => (D1 (ix4 0 0 x l) : EReal)) := by
  generalize hP : k0_pay20 Z S L a b e f = P
  generalize hR : k0_pay21 Z S L a b e f = R
  unfold k0_pay22 k0_pay23
  rw [hP, hR]
  pointwise [k0_pay1, k0_pay24, k0_pay27]
  rfl

theorem pay_hi (I : FVec Ideal S512x1 .f32) (P : FVec Ideal S512x256 .bf16) (R : FVec Ideal S512x384 .bf16) (C0 D0 : Vec Ideal S1x1x256x128 .bf16) (C1 D1 : Vec Ideal S1x1x384x128 .bf16) (X) (q l : Fin 128) :
    (k0_pay1 I X (k0_pay25 I P R C0 C1) (k0_pay26 P D0) (k0_pay27 R) D1 (ix3 0 q ⟨128 + l, by omega⟩) : EReal)
      = head I P R ⟨256 + q, by omega⟩ (fun x => (C0 (ix4 0 0 x l) : EReal)) (fun x => (C1 (ix4 0 0 x l) : EReal))
        + head I P R ⟨384 + q, by omega⟩ (fun x => (D0 (ix4 0 0 x l) : EReal)) (fun x => (D1 (ix4 0 0 x l) : EReal)) := by
  pointwise [k0_pay1, k0_pay25, k0_pay26, k0_pay27]
  rfl

theorem near (a b : ℕ) (ha : a < 5000) (hb : b < 5000) :
    IntOp.cmpi .sle (IntOp.absi (IntOp.subi (BitVec.ofNat 32 a) (BitVec.ofNat 32 b))) 128#32 = if a ≤ b + 128 ∧ b ≤ a + 128 then 1#1 else 0#1 := by
  have h : (IntOp.absi (IntOp.subi (BitVec.ofNat 32 a) (BitVec.ofNat 32 b))).toInt = |(a : ℤ) - b| := by
    rcases le_total b a with h | h
    · have e : IntOp.subi (BitVec.ofNat 32 a) (BitVec.ofNat 32 b) = BitVec.ofNat 32 (a - b) := by
        apply BitVec.eq_of_toNat_eq; simp [IntOp.subi]; omega
      rw [e, abs_of_nonneg (by omega)]
      have hm : (BitVec.ofNat 32 (a - b)).msb = false := by rw [BitVec.msb_eq_decide]; simp; omega
      unfold IntOp.absi
      rw [hm, if_neg (by simp), BitVec.toInt_eq_toNat_cond]; simp; omega
    · have e : IntOp.subi (BitVec.ofNat 32 a) (BitVec.ofNat 32 b) = -BitVec.ofNat 32 (b - a) := by
        apply BitVec.eq_of_toNat_eq; simp [IntOp.subi]; omega
      rw [e, abs_of_nonpos (by omega)]
      unfold IntOp.absi
      split
      · rw [BitVec.neg_neg, BitVec.toInt_eq_toNat_cond]; simp; omega
      · rename_i hm
        rw [BitVec.msb_eq_decide] at hm
        rw [BitVec.toInt_eq_toNat_cond]; simp at hm ⊢; omega
  show BitVec.ofBool (BitVec.sle _ _) = _
  rw [BitVec.sle_eq_decide, h]
  by_cases hab : a ≤ b + 128 ∧ b ≤ a + 128
  · rw [if_pos hab, decide_eq_true (abs_le.2 (by simp; omega))]; rfl
  · rw [if_neg hab, decide_eq_false (fun hh => hab (by have := abs_le.1 hh; simp at this; omega))]; rfl

/-- Positions of the queries of a grid point. -/
theorem pay13_at (j : Fin 32) (i : Fin 4) (q : Fin 128) :
    k0_pay13 (Scalar.addi (BitVec.ofNat 32 j) 2#32) rows (ix2 ⟨128 * i + q, by omega⟩ 0) = BitVec.ofNat 32 (128 * (j + 2) + q) := by
  have h1 : Scalar.muli (Scalar.addi (BitVec.ofNat 32 j) 2#32) 128#32 = BitVec.ofNat 32 (128 * (j + 2)) := by revert j; decide +kernel
  have h2 : (Scalar.select
        (IntOp.andi
          (IntOp.xori
            (IntOp.cmpi .slt (IntOp.remsi ArithUnit.vector (BitVec.ofNat 32 (128 * (i : ℕ) + q)) (Scalar.select (Scalar.cmpi .eq 128#32 0#32) 1#32 128#32)) 0#32)
            (Scalar.cmpi .slt (Scalar.select (Scalar.cmpi .eq 128#32 0#32) 1#32 128#32) 0#32))
          (IntOp.cmpi .ne (IntOp.remsi ArithUnit.vector (BitVec.ofNat 32 (128 * (i : ℕ) + q)) (Scalar.select (Scalar.cmpi .eq 128#32 0#32) 1#32 128#32)) 0#32))
        (IntOp.addi (IntOp.remsi ArithUnit.vector (BitVec.ofNat 32 (128 * (i : ℕ) + q)) (Scalar.select (Scalar.cmpi .eq 128#32 0#32) 1#32 128#32))
          (Scalar.select (Scalar.cmpi .eq 128#32 0#32) 1#32 128#32))
        (IntOp.remsi ArithUnit.vector (BitVec.ofNat 32 (128 * (i : ℕ) + q)) (Scalar.select (Scalar.cmpi .eq 128#32 0#32) 1#32 128#32))) = BitVec.ofNat 32 q := by
    revert i q; decide +kernel
  pointwise [k0_pay13]
  rw [h1, h2]
  exact (BitVec.ofNat_add _ _).symm

/-- Where the window of a grid point starts among the latent keys. -/
def start (j : ℕ) : ℕ := min 3712 (128 * j - 128)

/-- Positions of the keys of the window. -/
theorem pay14_at (j : Fin 32) (w : Fin 384) :
    k0_pay14 (Scalar.addi (BitVec.ofNat 32 j) 2#32) (ix2 0 w) = BitVec.ofNat 32 (256 + start j + w) := by
  have h1 : Scalar.minsi 3968#32 (Scalar.maxsi 256#32 (Scalar.subi (Scalar.muli (Scalar.addi (BitVec.ofNat 32 j) 2#32) 128#32) 128#32)) = BitVec.ofNat 32 (256 + start j) := by
    unfold start; revert j; decide +kernel
  pointwise [k0_pay14]
  rw [h1]
  exact (BitVec.ofNat_add _ _).symm

/-- The logits of the window, masked to the keys near the query. -/
theorem pay15_at (L : FVec Ideal S512x384 .f32) (j : Fin 32) (i : Fin 4) (q : Fin 128) (w : Fin 384) :
    (k0_pay15 L (k0_pay13 (Scalar.addi (BitVec.ofNat 32 j) 2#32) rows) (k0_pay14 (Scalar.addi (BitVec.ofNat 32 j) 2#32))
        (Scalar.muli (Scalar.addi (BitVec.ofNat 32 j) 2#32) 128#32) 256#32 (ix2 ⟨128 * i + q, by omega⟩ w) : EReal)
      = if 128 * (j : ℕ) + q ≤ start j + w + 128 ∧ start j + w ≤ 128 * (j : ℕ) + q + 128 then L (ix2 ⟨128 * i + q, by omega⟩ w) else ⊥ := by
  have h1 : Scalar.select (Scalar.cmpi .sge (Scalar.muli (Scalar.addi (BitVec.ofNat 32 j) 2#32) 128#32) 256#32) 128#32 4294967295#32 = 128#32 := by revert j; decide +kernel
  pointwise [k0_pay15]
  rw [h1, pay13_at, pay14_at, near _ _ (by omega) (by unfold start; omega), Row.negInf]
  by_cases h : 128 * (j : ℕ) + q ≤ start j + w + 128 ∧ start j + w ≤ 128 * (j : ℕ) + q + 128
  · rw [if_pos h, if_pos (by omega)]; rfl
  · rw [if_neg h, if_neg (by omega)]; rfl

end Cert.Sink

end

end
-- ==== Proof.SinkOperands.lean ====
/- The arrays the windowed attention call stages, and the attention they stand for. -/
module

public import proofs.«01_k».proof.Proof.SinkBlock

@[expose] public section

set_option maxRecDepth 16384

noncomputable section

open Idealize.ShloMosaic Idealize.ShloMosaic.TcCoe Idealize.SL.Sem

namespace Cert.Sink

open Cert.Kernel5Ideal Cert.Kernel5Ideal.Gen

/-- The logit of a query and a key: their product over eight. -/
def score (q k : Fin 64 → EReal) : EReal := (∑ d, q d * k d) * ((1 / 8 : ℝ) : EReal)

theorem eighth : Ideal.ofBits .f32 0x3E000000#32 = ((1 / 8 : ℝ) : EReal) := by
  simp [Ideal.ofBits, Ideal.ieee, -EReal.coe_mul]; norm_num

/-- The attention of latent query `t` of head `h` at value lane `e`: every context key, the latent keys within 128 of it, and the sink. -/
def att (q : FVec Ideal S8x4096x8x64 .f32) (k v : FVec Ideal S8x4096x2x64 .f32) (kc vc : FVec Ideal S8x256x2x64 .f32) (sink : FVec Ideal S8 .f32)
    (b : Fin 8) (t : Fin 4096) (h : Fin 8) (e : Fin 64) : EReal :=
  row (fun x : Fin 256 => score (fun d => q (ix4 b t h d)) fun d => kc (ix4 b x ⟨h / 4, by omega⟩ d))
    (fun x : Fin 4096 => if (t : ℕ) ≤ x + 128 ∧ (x : ℕ) ≤ t + 128 then score (fun d => q (ix4 b t h d)) fun d => k (ix4 b x ⟨h / 4, by omega⟩ d) else ⊥)
    (sink (ix1 h)) (fun x => vc (ix4 b x ⟨h / 4, by omega⟩ e)) fun x => v (ix4 b x ⟨h / 4, by omega⟩ e)

/-- The result as an array, heads side by side. -/
def G (q : FVec Ideal S8x4096x8x64 .f32) (k v : FVec Ideal S8x4096x2x64 .f32) (kc vc : FVec Ideal S8x256x2x64 .f32) (sink : FVec Ideal S8 .f32) :
    FVec Ideal S8x4096x512 .bf16 :=
  fun i => att q k v kc vc sink (i 0) (i 1) ⟨(i 2).val / 64, by have : (i 2).val < 512 := (i 2).isLt; omega⟩ ⟨(i 2).val % 64, by omega⟩

/-- Tokens in order: the context's rows first, the latent rows after. -/
def catQ (C : FVec Ideal S8x256x8x64 .f32) (L : FVec Ideal S8x4096x8x64 .f32) (b : Fin 8) (t : Fin 4352) (h : Fin 8) (d : Fin 64) : EReal :=
  if ht : (t : ℕ) < 256 then C (ix4 b ⟨t, ht⟩ h d) else L (ix4 b ⟨t - 256, by omega⟩ h d)

def catK (C : FVec Ideal S8x256x2x64 .f32) (L : FVec Ideal S8x4096x2x64 .f32) (b : Fin 8) (t : Fin 4352) (g : Fin 2) (d : Fin 64) : EReal :=
  if ht : (t : ℕ) < 256 then C (ix4 b ⟨t, ht⟩ g d) else L (ix4 b ⟨t - 256, by omega⟩ g d)

theorem catQ_latent (C L) (b : Fin 8) (t : ℕ) (ht : t < 4096) (h : Fin 8) (d : Fin 64) : catQ C L b ⟨256 + t, by omega⟩ h d = L (ix4 b ⟨t, ht⟩ h d) := by
  unfold catQ
  rw [dif_neg (by show ¬ 256 + t < 256; omega)]
  congr 2
  exact Fin.ext (by show 256 + t - 256 = t; omega)

theorem catK_latent (C L) (b : Fin 8) (t : ℕ) (ht : t < 4096) (g : Fin 2) (d : Fin 64) : catK C L b ⟨256 + t, by omega⟩ g d = L (ix4 b ⟨t, ht⟩ g d) := by
  unfold catK
  rw [dif_neg (by show ¬ 256 + t < 256; omega)]
  congr 2
  exact Fin.ext (by show 256 + t - 256 = t; omega)

theorem catK_context (C L) (b : Fin 8) (t : Fin 256) (g : Fin 2) (d : Fin 64) : catK C L b ⟨t, by omega⟩ g d = C (ix4 b t g d) := by
  unfold catK
  exact dif_pos t.isLt

/-- The queries as the host lays them out: heads before tokens, over eight, lanes padded to 128 with zeros. -/
def paddedQ (C : FVec Ideal S8x256x8x64 .f32) (L : FVec Ideal S8x4096x8x64 .f32) : FVec Ideal S8x8x4352x128 .f32 :=
  pad S8x8x4352x128 ![0, 0, 0, 0] ![0, 0, 0, 64] ![0, 0, 0, 0] (mulf (transpose S8x8x4352x64 [0, 2, 1, 3] (concatenate S8x4352x8x64 1 [⟨S8x256x8x64, C⟩, ⟨S8x4096x8x64, L⟩] concatenates_S8x256x8x64_S8x4096x8x64_S8x4352x8x64_d1) transposes_S8x4352x8x64_S8x8x4352x64_0_2_1_3) (broadcastInDim S8x8x4352x64 ![] bcast_S_S8x8x4352x64 (constant S_ .f32 0x3E000000#32))) (sitofp .f32 (constantI S_ 32 0#32)) pads_S8x8x4352x64_S8x8x4352x128_000_000_000_0640 h_S_

/-- Keys or values by groups, before the lanes are padded. -/
def groups (C : FVec Ideal S8x256x2x64 .f32) (L : FVec Ideal S8x4096x2x64 .f32) : FVec Ideal S8x2x4352x64 .f32 :=
  transpose S8x2x4352x64 [0, 2, 1, 3] (concatenate S8x4352x2x64 1 [⟨S8x256x2x64, C⟩, ⟨S8x4096x2x64, L⟩] concatenates_S8x256x2x64_S8x4096x2x64_S8x4352x2x64_d1) transposes_S8x4352x2x64_S8x2x4352x64_0_2_1_3

/-- In the lower lanes. -/
def lower (C : FVec Ideal S8x256x2x64 .f32) (L : FVec Ideal S8x4096x2x64 .f32) : FVec Ideal S8x2x4352x128 .f32 :=
  pad S8x2x4352x128 ![0, 0, 0, 0] ![0, 0, 0, 64] ![0, 0, 0, 0] (groups C L) (sitofp .f32 (constantI S_ 32 0#32)) pads_S8x2x4352x64_S8x2x4352x128_000_000_000_0640 h_S_

/-- In the upper lanes. -/
def upper (C : FVec Ideal S8x256x2x64 .f32) (L : FVec Ideal S8x4096x2x64 .f32) : FVec Ideal S8x2x4352x128 .f32 :=
  pad S8x2x4352x128 ![0, 0, 0, 64] ![0, 0, 0, 0] ![0, 0, 0, 0] (groups C L) (sitofp .f32 (constantI S_ 32 0#32)) pads_S8x2x4352x64_S8x2x4352x128_000_000_000_6400 h_S_

theorem paddedQ_at (C L) (b h : Fin 8) (t : Fin 4352) (d : Fin 128) :
    paddedQ C L (ix4 b h t d) = if hd : (d : ℕ) < 64 then catQ C L b t h ⟨d, hd⟩ * ((1 / 8 : ℝ) : EReal) else 0 := by
  rw [← eighth]
  pointwise [paddedQ]
  by_cases hd : (d : ℕ) < 64
  · rw [dif_pos hd, dif_pos hd]; rfl
  · rw [dif_neg hd, dif_neg hd]
    show (((0#32 : BitVec 32).toInt : ℝ) : EReal) = 0
    simp

theorem lower_at (C L) (b : Fin 8) (g : Fin 2) (t : Fin 4352) (d : Fin 128) :
    lower C L (ix4 b g t d) = if hd : (d : ℕ) < 64 then catK C L b t g ⟨d, hd⟩ else 0 := by
  pointwise [lower, groups]
  by_cases hd : (d : ℕ) < 64
  · rw [dif_pos hd, dif_pos hd]; rfl
  · rw [dif_neg hd, dif_neg hd]
    show (((0#32 : BitVec 32).toInt : ℝ) : EReal) = 0
    simp

theorem upper_at (C L) (b : Fin 8) (g : Fin 2) (t : Fin 4352) (d : Fin 128) :
    upper C L (ix4 b g t d) = if hd : (d : ℕ) < 64 then 0 else catK C L b t g ⟨d - 64, by omega⟩ := by
  pointwise [upper, groups]
  by_cases hd : (d : ℕ) < 64
  · rw [dif_pos hd, dif_neg (by omega)]
    show (((0#32 : BitVec 32).toInt : ℝ) : EReal) = 0
    simp
  · rw [dif_neg hd, dif_pos (by omega)]; rfl

variable (m : (ℓ : Loc nD τ sig) → Buf (Elt Ideal) ℓ)

theorem entry_q (c : Dev nD) : V m c main_v5 = truncf .bf16 (paddedQ (m ((c.tc : Thread nD τ).loc main_arg3)) (m ((c.tc : Thread nD τ).loc main_arg0))) bitsLt_bf16_f32 := by
  unfold V
  simp only [List.flatten_cons, List.flatten_nil, List.cons_append, List.nil_append, List.append_nil]; after_results_simp; rfl

theorem entry_k (c : Dev nD) : V m c main_v11 = truncf .bf16 (lower (m ((c.tc : Thread nD τ).loc main_arg4)) (m ((c.tc : Thread nD τ).loc main_arg1))) bitsLt_bf16_f32 := by
  unfold V
  simp only [List.flatten_cons, List.flatten_nil, List.cons_append, List.nil_append, List.append_nil]; after_results_simp; rfl

theorem entry_lo (c : Dev nD) : V m c main_v13 = truncf .bf16 (lower (m ((c.tc : Thread nD τ).loc main_arg5)) (m ((c.tc : Thread nD τ).loc main_arg2))) bitsLt_bf16_f32 := by
  unfold V
  simp only [List.flatten_cons, List.flatten_nil, List.cons_append, List.nil_append, List.append_nil]; after_results_simp; rfl

theorem entry_hi (c : Dev nD) : V m c main_v15 = truncf .bf16 (upper (m ((c.tc : Thread nD τ).loc main_arg5)) (m ((c.tc : Thread nD τ).loc main_arg2))) bitsLt_bf16_f32 := by
  unfold V
  simp only [List.flatten_cons, List.flatten_nil, List.cons_append, List.nil_append, List.append_nil]; after_results_simp; rfl

theorem entry_sink (c : Dev nD) : V m c main_arg6 = m ((c.tc : Thread nD τ).loc main_arg6) := by
  unfold V
  simp only [List.flatten_cons, List.flatten_nil, List.cons_append, List.nil_append, List.append_nil]; after_results_simp

theorem trunc_at {s : Shape} (x : FVec Ideal s .f32) (i : s.Idx) : (truncf .bf16 x bitsLt_bf16_f32 : FVec Ideal s .bf16) i = x i := rfl

theorem at_q (c : Dev nD) (i : S8x8x4352x128.Idx) : (V m c main_v5 : FVec Ideal S8x8x4352x128 .bf16) i = paddedQ (m ((c.tc : Thread nD τ).loc main_arg3)) (m ((c.tc : Thread nD τ).loc main_arg0)) i := by
  rw [entry_q]; exact trunc_at _ _

theorem at_k (c : Dev nD) (i : S8x2x4352x128.Idx) : (V m c main_v11 : FVec Ideal S8x2x4352x128 .bf16) i = lower (m ((c.tc : Thread nD τ).loc main_arg4)) (m ((c.tc : Thread nD τ).loc main_arg1)) i := by
  rw [entry_k]; exact trunc_at _ _

theorem at_lo (c : Dev nD) (i : S8x2x4352x128.Idx) : (V m c main_v13 : FVec Ideal S8x2x4352x128 .bf16) i = lower (m ((c.tc : Thread nD τ).loc main_arg5)) (m ((c.tc : Thread nD τ).loc main_arg2)) i := by
  rw [entry_lo]; exact trunc_at _ _

theorem at_hi (c : Dev nD) (i : S8x2x4352x128.Idx) : (V m c main_v15 : FVec Ideal S8x2x4352x128 .bf16) i = upper (m ((c.tc : Thread nD τ).loc main_arg5)) (m ((c.tc : Thread nD τ).loc main_arg2)) i := by
  rw [entry_hi]; exact trunc_at _ _

theorem idx : ∀ t : Fin cfg0.N, win0_0.index t = ![0] ∧ win0_1.index t = ![t.val / 64, t.val / 32 % 2, t.val % 32 + 2, 0] ∧ win0_2.index t = ![t.val / 64, t.val / 32 % 2, 0, 0] ∧ win0_3.index t = ![t.val / 64, t.val / 32 % 2, 0, 0] ∧ win0_4.index t = ![t.val / 64, t.val / 32 % 2, 0, 0] ∧ win0_5.index t = ![t.val / 64, t.val % 32, t.val / 32 % 2] := (by decide +kernel : ∀ t : Fin grid0.N, _)

theorem lt_N (t : Fin cfg0.N) : t.val < 512 := lt_of_lt_of_eq t.isLt N_0

/-- Batch, group of heads, block of queries of a grid point. -/
abbrev pb (t : Fin cfg0.N) : Fin 8 := ⟨t.val / 64, by have := lt_N t; omega⟩
abbrev pg (t : Fin cfg0.N) : Fin 2 := ⟨t.val / 32 % 2, by omega⟩
abbrev pj (t : Fin cfg0.N) : Fin 32 := ⟨t.val % 32, by omega⟩

theorem iblk_sink (c : Dev nD) (t : Fin cfg0.N) (h : Fin 8) :
    (iblk m c 0 t (ix1 h) : EReal) = (m ((c.tc : Thread nD τ).loc main_arg6) : FVec Ideal S8 .f32) (ix1 h) := by
  rw [← entry_sink m c]
  blk_simp [iblk]
  blk_ext [idx t]

theorem iblk_q (c : Dev nD) (t : Fin cfg0.N) (i : Fin 4) (r : Fin 128) (d : Fin 128) :
    (iblk m c 1 t (ix4 0 i r d) : EReal) = paddedQ (m ((c.tc : Thread nD τ).loc main_arg3)) (m ((c.tc : Thread nD τ).loc main_arg0))
      (ix4 (pb t) ⟨4 * pg t + i, by omega⟩ ⟨256 + (128 * pj t + r), by omega⟩ d) := by
  rw [← at_q m c]
  blk_simp [iblk]
  blk_ext [idx t]

theorem iblk_k (c : Dev nD) (t : Fin cfg0.N) (r : Fin 4352) (d : Fin 128) :
    (iblk m c 2 t (ix4 0 0 r d) : EReal) = lower (m ((c.tc : Thread nD τ).loc main_arg4)) (m ((c.tc : Thread nD τ).loc main_arg1)) (ix4 (pb t) (pg t) r d) := by
  rw [← at_k m c]
  blk_simp [iblk]
  blk_ext [idx t]

theorem iblk_lo (c : Dev nD) (t : Fin cfg0.N) (r : Fin 4352) (d : Fin 128) :
    (iblk m c 3 t (ix4 0 0 r d) : EReal) = lower (m ((c.tc : Thread nD τ).loc main_arg5)) (m ((c.tc : Thread nD τ).loc main_arg2)) (ix4 (pb t) (pg t) r d) := by
  rw [← at_lo m c]
  blk_simp [iblk]
  blk_ext [idx t]

theorem iblk_hi (c : Dev nD) (t : Fin cfg0.N) (r : Fin 4352) (d : Fin 128) :
    (iblk m c 4 t (ix4 0 0 r d) : EReal) = upper (m ((c.tc : Thread nD τ).loc main_arg5)) (m ((c.tc : Thread nD τ).loc main_arg2)) (ix4 (pb t) (pg t) r d) := by
  rw [← at_hi m c]
  blk_simp [iblk]
  blk_ext [idx t]

end Cert.Sink

end

end
-- ==== Proof.SinkFinal.lean ====
/- The array the windowed attention call writes. -/
module

public import proofs.«01_k».proof.Proof.SinkOperands

@[expose] public section

set_option maxRecDepth 16384

noncomputable section

open Idealize.ShloMosaic Idealize.ShloMosaic.TcCoe Idealize.SL.Sem

namespace Cert.Sink

open Cert.Kernel5Ideal Cert.Kernel5Ideal.Gen

/-- Every entry is a real number. -/
def AllReal {s : Shape} (x : FVec Ideal s .f32) : Prop := ∀ i, ∃ r : ℝ, x i = r

/-- One head's row from its blocks: the query, the context's and the window's keys, the sink, the values. -/
def one (j : Fin 32) (r : Fin 128) (q0 : Fin 128 → EReal) (k0 : Fin 256 → Fin 128 → EReal) (k1 : Fin 384 → Fin 128 → EReal) (z : EReal) (vc : Fin 256 → EReal) (vl : Fin 384 → EReal) : EReal :=
  kRow (fun x => ∑ d, q0 d * k0 x d)
    (fun w => if 128 * (j : ℕ) + r ≤ start j + w + 128 ∧ start j + w ≤ 128 * (j : ℕ) + r + 128 then ∑ d, q0 d * k1 w d else ⊥) z vc vl

section
variable (A : Vec Ideal S1x4x128x128 .bf16) (K0 : Vec Ideal S1x1x256x128 .bf16) (K1 : Vec Ideal S1x1x384x128 .bf16) (e0 e1 e2 e3 : EReal) (j : Fin 32)

/-- The weights a grid point computes, one row per head and query. -/
abbrev wI := k0_pay19 (sinks e0 e1 e2 e3) (k0_pay11 (k0_pay2 A) K0) (k0_pay12 (k0_pay2 A) K1) (k0_pay13 (Scalar.addi (BitVec.ofNat 32 j) 2#32) rows) (k0_pay14 (Scalar.addi (BitVec.ofNat 32 j) 2#32)) (Scalar.muli (Scalar.addi (BitVec.ofNat 32 j) 2#32) 128#32) 256#32
abbrev wP := k0_pay20 (sinks e0 e1 e2 e3) (k0_pay11 (k0_pay2 A) K0) (k0_pay12 (k0_pay2 A) K1) (k0_pay13 (Scalar.addi (BitVec.ofNat 32 j) 2#32) rows) (k0_pay14 (Scalar.addi (BitVec.ofNat 32 j) 2#32)) (Scalar.muli (Scalar.addi (BitVec.ofNat 32 j) 2#32) 128#32) 256#32
abbrev wR := k0_pay21 (sinks e0 e1 e2 e3) (k0_pay11 (k0_pay2 A) K0) (k0_pay12 (k0_pay2 A) K1) (k0_pay13 (Scalar.addi (BitVec.ofNat 32 j) 2#32) rows) (k0_pay14 (Scalar.addi (BitVec.ofNat 32 j) 2#32)) (Scalar.muli (Scalar.addi (BitVec.ofNat 32 j) 2#32) 128#32) 256#32

theorem head_eq (i : Fin 4) (r : Fin 128) (vc : Fin 256 → EReal) (vl : Fin 384 → EReal) :
    head (wI A K0 K1 e0 e1 e2 e3 j) (wP A K0 K1 e0 e1 e2 e3 j) (wR A K0 K1 e0 e1 e2 e3 j) ⟨128 * i + r, by omega⟩ vc vl
      = one j r (fun d => (A (ix4 0 i r d) : EReal)) (fun x d => (K0 (ix4 0 0 x d) : EReal)) (fun w d => (K1 (ix4 0 0 w d) : EReal))
          (if (i : ℕ) = 0 then e0 else if (i : ℕ) = 1 then e1 else if (i : ℕ) = 2 then e2 else e3) vc vl := by
  unfold head one kRow kInv
  simp only [pay20_at, pay21_at, pay19_at, pay16_at, pay15_at, pay11_at, pay12_at, pay2_at, sinks_at]

end

theorem ld_c (X : Vec Ideal S1x1x4352x128 .bf16) (r : Fin 256) (d : Fin 128) :
    View.ld X (Rect.unit ![0, 0, 0, 0] ![1, 1, 256, 128] inb_S1x1x4352x128_S1x1x256x128_0_0_0_0) (ix4 0 0 r d) = X (ix4 0 0 ⟨r, by omega⟩ d) := by
  pointwise

theorem off2 : ∀ i : grid0.Coords, k0_off2 i = ![0, 0, 256 + start (i 2).val, 0] := by
  intro i; unfold k0_off2 start; generalize (i 2) = j; revert j; decide +kernel

theorem off1 : ∀ (i : grid0.Coords) (r : Fin 4), k0_off1 i (BitVec.ofNat 32 r) = ![4 * (i 1).val + r] := by
  intro i; unfold k0_off1; generalize (i 1) = j; revert j; decide +kernel

theorem ld_w (X : Vec Ideal S1x1x4352x128 .bf16) (i : grid0.Coords) (j : Fin 32) (hj : (i 2).val = j) (w : Fin 384) (d : Fin 128) :
    View.ld X (Rect.unit (k0_off2 i) ![1, 1, 384, 128] (k0_off2_inb i)) (ix4 0 0 w d) = X (ix4 0 0 ⟨256 + (start j + w), by unfold start; omega⟩ d) := by
  refine congrArg X (funext fun a => Fin.ext ?_)
  have h := off2 i
  rw [hj] at h
  have e : ∀ a : Fin 4, (![0, 0, 256 + start (j : ℕ), 0] : Fin 4 → ℕ) a + 1 * ((ix4 (0 : Fin 1) (0 : Fin 1) w d) a).val
      = ((ix4 (0 : Fin 1) (0 : Fin 1) (⟨256 + (start j + w), by unfold start; omega⟩ : Fin 4352) d) a).val := by
    intro a
    fin_cases a
    · rfl
    · rfl
    · show 256 + start (j : ℕ) + 1 * (w : ℕ) = 256 + (start j + w); omega
    · show 0 + 1 * (d : ℕ) = d; omega
  exact (congrArg (fun n => n + 1 * ((ix4 (0 : Fin 1) (0 : Fin 1) w d) a).val) (congrFun h a)).trans (e a)

theorem ld_s (X : Vec Ideal S8 .f32) (i : grid0.Coords) (g : Fin 2) (hg : (i 1).val = g) (r : Fin 4) (b : BitVec 32) (hb : b = BitVec.ofNat 32 r) (hin) (h') :
    View.ld X (Rect.unit (k0_off1 i b) ![1] hin) (Shape.Idx.first h') = X (ix1 ⟨4 * g + r, by omega⟩) := by
  subst hb
  refine congrArg X (funext fun a => Fin.ext ?_)
  have h := off1 i r
  rw [hg] at h
  obtain rfl : a = 0 := Subsingleton.elim (α := Fin 1) _ _
  have e : ((Shape.Idx.first h') 0).val = 0 := rfl
  refine (congrArg (fun n => n + 1 * ((Shape.Idx.first h') 0).val) (congrFun h 0)).trans ?_
  dsimp only
  rw [e]
  rfl

section
variable (q : FVec Ideal S8x4096x8x64 .f32) (k v : FVec Ideal S8x4096x2x64 .f32) (qc : FVec Ideal S8x256x8x64 .f32) (kc vc : FVec Ideal S8x256x2x64 .f32) (sink : FVec Ideal S8 .f32)

/-- One head's row from the staged arrays, with values `W` at lane `l`. -/
def part (W : FVec Ideal S8x2x4352x128 .f32) (b : Fin 8) (g : Fin 2) (i : Fin 4) (j : Fin 32) (r l : Fin 128) : EReal :=
  one j r (fun d => paddedQ qc q (ix4 b ⟨4 * g + i, by omega⟩ ⟨256 + (128 * j + r), by omega⟩ d)) (fun x d => lower kc k (ix4 b g ⟨x, by omega⟩ d))
    (fun w d => lower kc k (ix4 b g ⟨256 + (start j + w), by unfold start; omega⟩ d)) (sink (ix1 ⟨4 * g + i, by omega⟩))
    (fun x => W (ix4 b g ⟨x, by omega⟩ l)) (fun w => W (ix4 b g ⟨256 + (start j + w), by unfold start; omega⟩ l))

theorem part_other (W) (b : Fin 8) (g : Fin 2) (i : Fin 4) (j : Fin 32) (r l : Fin 128) (hW : ∀ t, W (ix4 b g t l) = 0) : part q k qc kc sink W b g i j r l = 0 :=
  kRow_zero _ _ _ _ _ (fun x => hW _) (fun x => hW _)

/-- The staged product of a query and a key is the logit. -/
theorem staged_score (b : Fin 8) (h : Fin 8) (g : Fin 2) (t t' : Fin 4352) :
    (∑ d : Fin 128, paddedQ qc q (ix4 b h t d) * lower kc k (ix4 b g t' d)) = score (catQ qc q b t h) (catK kc k b t' g) := by
  unfold score
  rw [Row.sum_mul_coe _ _ (by norm_num)]
  refine (Fin.sum_univ_add (a := 64) (b := 64) fun d : Fin (64 + 64) => paddedQ qc q (ix4 b h t d) * lower kc k (ix4 b g t' d)).trans ?_
  have e : ∀ d : Fin 64, paddedQ qc q (ix4 b h t (Fin.castAdd 64 d)) * lower kc k (ix4 b g t' (Fin.castAdd 64 d)) = catQ qc q b t h d * catK kc k b t' g d * ((1 / 8 : ℝ) : EReal) := by
    intro d
    rw [paddedQ_at, lower_at, dif_pos (by exact d.isLt), dif_pos (by exact d.isLt), mul_right_comm]
    rfl
  have e' : ∀ d : Fin 64, paddedQ qc q (ix4 b h t (Fin.natAdd 64 d)) * lower kc k (ix4 b g t' (Fin.natAdd 64 d)) = 0 := by
    intro d
    rw [paddedQ_at, dif_neg (by show ¬ 64 + (d : ℕ) < 64; omega), zero_mul]
  rw [Finset.sum_congr rfl fun d _ => e d, Finset.sum_congr rfl fun d _ => e' d, Finset.sum_const_zero, add_zero]

theorem score_real (f g : Fin 64 → EReal) (hf : ∀ d, ∃ r : ℝ, f d = r) (hg : ∀ d, ∃ r : ℝ, g d = r) : ∃ r : ℝ, score f g = r := by
  choose a ha using hf
  choose b hb using hg
  refine ⟨(∑ d, a d * b d) * (1 / 8), ?_⟩
  unfold score
  simp only [ha, hb, ← EReal.coe_mul]
  rw [Row.sum_coe, ← EReal.coe_mul]

theorem score_ne_top (f g : Fin 64 → EReal) (hf : ∀ d, ∃ r : ℝ, f d = r) (hg : ∀ d, ∃ r : ℝ, g d = r) : score f g ≠ ⊤ := by
  obtain ⟨r, hr⟩ := score_real f g hf hg
  rw [hr]; exact EReal.coe_ne_top r

variable {q k qc kc sink}

theorem part_own (hq : AllReal q) (hk : AllReal k) (hkc : AllReal kc) (hs : AllReal sink) (W) (b : Fin 8) (g : Fin 2) (i : Fin 4) (j : Fin 32) (r l : Fin 128) (e : Fin 64)
    (hW : ∀ t, W (ix4 b g t l) = catK vc v b t g e) :
    part q k qc kc sink W b g i j r l = att q k v kc vc sink b ⟨128 * j + r, by omega⟩ ⟨4 * g + i, by omega⟩ e := by
  have eg : ∀ h, (⟨(4 * (g : ℕ) + i) / 4, h⟩ : Fin 2) = g := fun h => Fin.ext (by show (4 * (g : ℕ) + i) / 4 = g; omega)
  have eq : catQ qc q b ⟨256 + (128 * j + r), by omega⟩ ⟨4 * g + i, by omega⟩ = fun d => q (ix4 b ⟨128 * j + r, by omega⟩ ⟨4 * g + i, by omega⟩ d) :=
    funext fun d => catQ_latent qc q b _ _ _ d
  have ec : ∀ x : Fin 256, catK kc k b ⟨x, by omega⟩ g = fun d => kc (ix4 b x g d) := fun x => funext fun d => catK_context kc k b x g d
  have el : ∀ w : Fin 384, catK kc k b ⟨256 + (start j + w), by unfold start; omega⟩ g = fun d => k (ix4 b ⟨start j + w, by unfold start; omega⟩ g d) :=
    fun w => funext fun d => catK_latent kc k b _ _ g d
  unfold part one att
  simp only [staged_score, hW, eq, ec, el, catK_context, eg]
  have evl : ∀ w : Fin 384, catK vc v b ⟨256 + (start j + w), by unfold start; omega⟩ g e = v (ix4 b ⟨start j + w, by unfold start; omega⟩ g e) :=
    fun w => catK_latent vc v b _ _ g e
  simp only [evl]
  rw [kRow_eq]
  · refine row_window _ _ _ _ _ _ _ (fun w : Fin 384 => ⟨start j + w, by unfold start; omega⟩) ?_ ?_ ?_ ?_
    · intro a a' h
      have h := congrArg Fin.val h
      exact Fin.ext (by dsimp only at h; omega)
    · intro w; rfl
    · intro w; rfl
    · intro x hx
      refine if_neg fun hn => ?_
      have hn : 128 * (j : ℕ) + r ≤ x + 128 ∧ (x : ℕ) ≤ 128 * (j : ℕ) + r + 128 := hn
      have h1 : start j ≤ x := by unfold start; omega
      have h2 : (x : ℕ) - start j < 384 := by unfold start; omega
      exact hx ⟨⟨x - start j, h2⟩, Fin.ext (by show start j + ((x : ℕ) - start j) = x; omega)⟩
  · intro x; exact score_ne_top _ _ (fun d => hq _) (fun d => hkc _)
  · intro w
    split
    · exact score_ne_top _ _ (fun d => hq _) (fun d => hk _)
    · exact bot_ne_top
  · exact hs _

/-- Two heads sharing the lanes: lane `l` belongs to one of them. -/
theorem parts (hq : AllReal q) (hk : AllReal k) (hkc : AllReal kc) (hs : AllReal sink) (b : Fin 8) (g : Fin 2) (i i' : Fin 4) (hi : (i' : ℕ) = i + 1) (j : Fin 32) (r l : Fin 128) :
    part q k qc kc sink (lower vc v) b g i j r l + part q k qc kc sink (upper vc v) b g i' j r l
      = att q k v kc vc sink b ⟨128 * j + r, by omega⟩ ⟨4 * g + i + l / 64, by omega⟩ ⟨l % 64, by omega⟩ := by
  by_cases hl : (l : ℕ) < 64
  · rw [part_own v vc hq hk hkc hs _ b g i j r l ⟨l % 64, by omega⟩ (fun t => ?_), part_other _ _ _ _ _ _ b g i' j r l (fun t => ?_), add_zero]
    · congr 1; exact Fin.ext (by show 4 * (g : ℕ) + i = 4 * g + i + l / 64; omega)
    · rw [upper_at, dif_pos hl]
    · rw [lower_at, dif_pos hl]; congr 1; exact Fin.ext (by show (l : ℕ) = l % 64; omega)
  · rw [part_other _ _ _ _ _ _ b g i j r l (fun t => ?_), part_own v vc hq hk hkc hs _ b g i' j r l ⟨l % 64, by omega⟩ (fun t => ?_), zero_add]
    · congr 1; exact Fin.ext (by show 4 * (g : ℕ) + i' = 4 * g + i + l / 64; omega)
    · rw [upper_at, dif_neg hl]; congr 1; exact Fin.ext (by show (l : ℕ) - 64 = l % 64; omega)
    · rw [lower_at, dif_neg hl]

end

theorem pay_lo' (Z : FVec Ideal S512x1 .f32) (S : FVec Ideal S512x256 .f32) (L : FVec Ideal S512x384 .f32) (a : IVec S512x1 32) (b : IVec S1x384 32) (e f : BitVec 32)
    (I : FVec Ideal S512x1 .f32) (C0 D0 : Vec Ideal S1x1x256x128 .bf16) (C1 D1 : Vec Ideal S1x1x384x128 .bf16) (X2 X4 X6) (q l : Fin 128) :
    (k0_pay1 I (k0_pay24 I (k0_pay20 Z S L a b e f) (k0_pay21 Z S L a b e f) (k0_pay22 Z S L a b e f C0) (k0_pay23 Z S L a b e f C1) D0 D1) X2 X4 (k0_pay27 (k0_pay21 Z S L a b e f)) X6 (ix3 0 q ⟨l, by omega⟩) : EReal)
      = head I (k0_pay20 Z S L a b e f) (k0_pay21 Z S L a b e f) ⟨128 * ((0 : Fin 4) : ℕ) + q, by omega⟩ (fun x => (C0 (ix4 0 0 x l) : EReal)) (fun x => (C1 (ix4 0 0 x l) : EReal))
        + head I (k0_pay20 Z S L a b e f) (k0_pay21 Z S L a b e f) ⟨128 * ((1 : Fin 4) : ℕ) + q, by omega⟩ (fun x => (D0 (ix4 0 0 x l) : EReal)) (fun x => (D1 (ix4 0 0 x l) : EReal)) := by
  have h0 : (⟨128 * ((0 : Fin 4) : ℕ) + q, by omega⟩ : Fin 512) = ⟨q, by omega⟩ := Fin.ext (by show 128 * 0 + (q : ℕ) = q; omega)
  rw [h0]
  exact pay_lo ..

theorem pay_hi' (I : FVec Ideal S512x1 .f32) (P : FVec Ideal S512x256 .bf16) (R : FVec Ideal S512x384 .bf16) (C0 D0 : Vec Ideal S1x1x256x128 .bf16) (C1 D1 : Vec Ideal S1x1x384x128 .bf16) (X) (q l : Fin 128) :
    (k0_pay1 I X (k0_pay25 I P R C0 C1) (k0_pay26 P D0) (k0_pay27 R) D1 (ix3 0 q ⟨128 + l, by omega⟩) : EReal)
      = head I P R ⟨128 * ((2 : Fin 4) : ℕ) + q, by omega⟩ (fun x => (C0 (ix4 0 0 x l) : EReal)) (fun x => (C1 (ix4 0 0 x l) : EReal))
        + head I P R ⟨128 * ((3 : Fin 4) : ℕ) + q, by omega⟩ (fun x => (D0 (ix4 0 0 x l) : EReal)) (fun x => (D1 (ix4 0 0 x l) : EReal)) :=
  pay_hi ..

/-- The result where two heads share the lanes. -/
theorem out_at (q : FVec Ideal S8x4096x8x64 .f32) (k v : FVec Ideal S8x4096x2x64 .f32) (kc vc : FVec Ideal S8x256x2x64 .f32) (sink : FVec Ideal S8 .f32) (qc : FVec Ideal S8x256x8x64 .f32)
    (hq : AllReal q) (hk : AllReal k) (hkc : AllReal kc) (hs : AllReal sink) (b : Fin 8) (g : Fin 2) (i i' : Fin 4) (hi : (i' : ℕ) = i + 1) (j : Fin 32) (r l : Fin 128)
    (f : Fin 512) (hf : (f : ℕ) = 64 * (4 * g + i) + l) :
    (G q k v kc vc sink (ix3 b ⟨128 * j + r, by omega⟩ f) : EReal)
      = part q k qc kc sink (lower vc v) b g i j r l + part q k qc kc sink (upper vc v) b g i' j r l := by
  rw [parts v vc hq hk hkc hs b g i i' hi j r l]
  show att q k v kc vc sink b ⟨128 * j + r, _⟩ ⟨(f : ℕ) / 64, _⟩ ⟨(f : ℕ) % 64, _⟩ = _
  congr 1
  · exact Fin.ext (by show (f : ℕ) / 64 = 4 * g + i + l / 64; omega)
  · exact Fin.ext (by show (f : ℕ) % 64 = l % 64; omega)

/-- A row from blocks is the row from the staged arrays the blocks are cut from. -/
theorem one_part (q : FVec Ideal S8x4096x8x64 .f32) (k : FVec Ideal S8x4096x2x64 .f32) (qc : FVec Ideal S8x256x8x64 .f32) (kc : FVec Ideal S8x256x2x64 .f32) (sink : FVec Ideal S8 .f32)
    (W : FVec Ideal S8x2x4352x128 .f32) (b : Fin 8) (g : Fin 2) (i : Fin 4) (j : Fin 32) (r l : Fin 128)
    (q0 : Fin 128 → EReal) (k0 : Fin 256 → Fin 128 → EReal) (k1 : Fin 384 → Fin 128 → EReal) (z : EReal) (vc : Fin 256 → EReal) (vl : Fin 384 → EReal)
    (hq : ∀ d, q0 d = paddedQ qc q (ix4 b ⟨4 * g + i, by omega⟩ ⟨256 + (128 * j + r), by omega⟩ d)) (hk0 : ∀ x d, k0 x d = lower kc k (ix4 b g ⟨x, by omega⟩ d))
    (hk1 : ∀ w d, k1 w d = lower kc k (ix4 b g ⟨256 + (start j + w), by unfold start; omega⟩ d)) (hz : z = sink (ix1 ⟨4 * g + i, by omega⟩))
    (hvc : ∀ x, vc x = W (ix4 b g ⟨x, by omega⟩ l)) (hvl : ∀ w, vl w = W (ix4 b g ⟨256 + (start j + w), by unfold start; omega⟩ l)) :
    one j r q0 k0 k1 z vc vl = part q k qc kc sink W b g i j r l := by
  obtain rfl := funext hq
  obtain rfl : k0 = _ := funext fun x => funext fun d => hk0 x d
  obtain rfl : k1 = _ := funext fun x => funext fun d => hk1 x d
  obtain rfl := funext hvc
  obtain rfl := funext hvl
  subst hz
  rfl

theorem coords : ∀ t : Fin cfg0.N, (grid0.coords t 2).val = t.val % 32 ∧ (grid0.coords t 1).val = t.val / 32 % 2 := (by decide +kernel : ∀ t : Fin grid0.N, _)

variable (m : (ℓ : Loc nD τ sig) → Buf (Elt Ideal) ℓ)

theorem final (c : Dev nD)
    (hq : AllReal (m ((c.tc : Thread nD τ).loc main_arg0) : FVec Ideal S8x4096x8x64 .f32))
    (hk : AllReal (m ((c.tc : Thread nD τ).loc main_arg1) : FVec Ideal S8x4096x2x64 .f32))
    (hkc : AllReal (m ((c.tc : Thread nD τ).loc main_arg4) : FVec Ideal S8x256x2x64 .f32))
    (hs : AllReal (m ((c.tc : Thread nD τ).loc main_arg6) : FVec Ideal S8 .f32)) :
    (dats m 0 c).arrAt 5 cfg0.N = G (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6)) := by
  refine (dats m 0 c).arrAt_eq_of_covers 5 _ (by decide +kernel) fun t _ y => ?_
  blk_simp
  rw [after0_5]
  have em : ∀ (a : Fin 1) (r : Fin 128) (l : Fin 256), ((win0_5.blk t).view.emb (ix3 a r l) : S8x4096x512.Idx) = ix3 (pb t) ⟨128 * pj t + r, by omega⟩ ⟨256 * (pg t : ℕ) + l, by omega⟩ := by
    intro a r l
    blk_ext [idx t]
  have hj : (grid0.coords t 2).val = (pj t : ℕ) := (coords t).1
  have hg : (grid0.coords t 1).val = (pg t : ℕ) := (coords t).2
  unfold outsAt0
  frame_out
  idx_vars y
  obtain rfl : y0 = 0 := Subsingleton.elim _ _
  refine Eq.trans ?_ (congrArg (G _ _ _ _ _ _) (em 0 y1 y2)).symm
  rw [ld_s _ _ (pg t) hg 0 0#32 rfl, ld_s _ _ (pg t) hg 1 1#32 rfl, ld_s _ _ (pg t) hg 2 2#32 rfl, ld_s _ _ (pg t) hg 3 3#32 rfl, hj]
  by_cases hl : (y2 : ℕ) < 128
  · obtain ⟨l, rfl⟩ : ∃ l : Fin 128, y2 = (⟨l, Nat.lt_trans l.isLt (by decide)⟩ : Fin 256) := ⟨⟨y2, hl⟩, rfl⟩
    refine (pay_lo' _ _ _ _ _ _ _ _ _ _ _ _ _ _ _ y1 l).trans ?_
    refine (congrArg₂ (· + ·) (head_eq _ _ _ _ _ _ _ (pj t) 0 y1 _ _) (head_eq _ _ _ _ _ _ _ (pj t) 1 y1 _ _)).trans ?_
    refine Eq.trans ?_ (out_at _ _ _ _ _ _ (m ((c.tc : Thread nD τ).loc main_arg3)) hq hk hkc hs (pb t) (pg t) 0 1 rfl (pj t) y1 l _ (by show 256 * (pg t : ℕ) + l = 64 * (4 * (pg t : ℕ) + 0) + l; omega)).symm
    refine congrArg₂ (· + ·) ?_ ?_
    · exact one_part _ _ _ _ _ _ _ _ _ _ _ _ _ _ _ _ _ _ (fun d => iblk_q m c t 0 y1 d) (fun x d => (ld_c _ x d).trans (iblk_k m c t _ d)) (fun w d => (ld_w _ _ (pj t) hj w d).trans (iblk_k m c t _ d))
        (iblk_sink m c t _) (fun x => (ld_c _ x l).trans (iblk_lo m c t _ l)) (fun w => (ld_w _ _ (pj t) hj w l).trans (iblk_lo m c t _ l))
    · exact one_part _ _ _ _ _ _ _ _ _ _ _ _ _ _ _ _ _ _ (fun d => iblk_q m c t 1 y1 d) (fun x d => (ld_c _ x d).trans (iblk_k m c t _ d)) (fun w d => (ld_w _ _ (pj t) hj w d).trans (iblk_k m c t _ d))
        (iblk_sink m c t _) (fun x => (ld_c _ x l).trans (iblk_hi m c t _ l)) (fun w => (ld_w _ _ (pj t) hj w l).trans (iblk_hi m c t _ l))
  · obtain ⟨l, rfl⟩ : ∃ l : Fin 128, y2 = (⟨128 + l, Nat.add_lt_add_left l.isLt 128⟩ : Fin 256) := ⟨⟨y2 - 128, by have : (y2 : ℕ) < 256 := y2.isLt; omega⟩, Fin.ext (by show (y2 : ℕ) = 128 + (y2 - 128); omega)⟩
    refine (pay_hi' _ _ _ _ _ _ _ _ y1 l).trans ?_
    refine (congrArg₂ (· + ·) (head_eq _ _ _ _ _ _ _ (pj t) 2 y1 _ _) (head_eq _ _ _ _ _ _ _ (pj t) 3 y1 _ _)).trans ?_
    refine Eq.trans ?_ (out_at _ _ _ _ _ _ (m ((c.tc : Thread nD τ).loc main_arg3)) hq hk hkc hs (pb t) (pg t) 2 3 rfl (pj t) y1 l _ (by show 256 * (pg t : ℕ) + (128 + l) = 64 * (4 * (pg t : ℕ) + 2) + l; omega)).symm
    refine congrArg₂ (· + ·) ?_ ?_
    · exact one_part _ _ _ _ _ _ _ _ _ _ _ _ _ _ _ _ _ _ (fun d => iblk_q m c t 2 y1 d) (fun x d => (ld_c _ x d).trans (iblk_k m c t _ d)) (fun w d => (ld_w _ _ (pj t) hj w d).trans (iblk_k m c t _ d))
        (iblk_sink m c t _) (fun x => (ld_c _ x l).trans (iblk_lo m c t _ l)) (fun w => (ld_w _ _ (pj t) hj w l).trans (iblk_lo m c t _ l))
    · exact one_part _ _ _ _ _ _ _ _ _ _ _ _ _ _ _ _ _ _ (fun d => iblk_q m c t 3 y1 d) (fun x d => (ld_c _ x d).trans (iblk_k m c t _ d)) (fun w d => (ld_w _ _ (pj t) hj w d).trans (iblk_k m c t _ d))
        (iblk_sink m c t _) (fun x => (ld_c _ x l).trans (iblk_hi m c t _ l)) (fun w => (ld_w _ _ (pj t) hj w l).trans (iblk_hi m c t _ l))

end Cert.Sink

end

end
-- ==== Proof.SinkRef.lean ====
/- The reference's windowed attention, entry by entry, in stages: logits, softmax with the sink, weighted values. -/
module

public import proofs.«01_k».proof.Proof.Gen.Reference5Ideal.Run
public import Idealize.ShloMosaic.Lib.Pipeline.ValueKit
public import proofs.«01_k».proof.Proof.SinkRow

@[expose] public section

set_option maxRecDepth 16384

noncomputable section

open Idealize.ShloMosaic Idealize.ShloMosaic.TcCoe Idealize.SL.Sem

namespace Cert.SinkRef

open Cert.Reference5Ideal Cert.Reference5Ideal.Gen

/-- The logits against the context. -/
def scoresC (Q : FVec Ideal S8x4096x8x64 .f32) (K : FVec Ideal S8x256x2x64 .f32) : FVec Ideal S8x2x4x4096x256 .f32 :=
  mulf (transpose S8x2x4x4096x256 [0, 1, 4, 3, 2] (Host.dotGeneral dot_S8x256x2x64_S8x4096x2x4x64_S8x2x256x4096x4_3_4_1_13_02_02 none K (shapeCast _ Q shapeCasts_S8x4096x8x64_S8x4096x2x4x64)) transposes_S8x2x256x4096x4_S8x2x4x4096x256_0_1_4_3_2) (broadcastInDim S8x2x4x4096x256 ![] bcast_S_S8x2x4x4096x256 (constant S_ .f32 0x3E000000#32))

/-- The logits against the latent tokens, every pair. -/
def allL (Q : FVec Ideal S8x4096x8x64 .f32) (K : FVec Ideal S8x4096x2x64 .f32) : FVec Ideal S8x2x4x4096x4096 .f32 :=
  mulf (transpose S8x2x4x4096x4096 [0, 1, 4, 3, 2] (Host.dotGeneral dot_S8x4096x2x64_S8x4096x2x4x64_S8x2x4096x4096x4_3_4_1_13_02_02 none K (shapeCast _ Q shapeCasts_S8x4096x8x64_S8x4096x2x4x64)) transposes_S8x2x4096x4096x4_S8x2x4x4096x4096_0_1_4_3_2) (broadcastInDim S8x2x4x4096x4096 ![] bcast_S_S8x2x4x4096x4096 (constant S_ .f32 0x3E000000#32))

/-- Which pairs are near. -/
def nearM : IVec S4096x4096 1 :=
  cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 128#32))

/-- The logits against the latent tokens, far pairs at minus infinity. -/
def maskL (X : FVec Ideal S8x2x4x4096x4096 .f32) : FVec Ideal S8x2x4x4096x4096 .f32 :=
  select (broadcastInDim S8x2x4x4096x4096 ![3, 4] bcast_S4096x4096_S8x2x4x4096x4096_3_4 nearM) X (broadcastInDim S8x2x4x4096x4096 ![] bcast_S_S8x2x4x4096x4096 (id (constant S_ .f32 0xFF800000#32)))

def sinkB (S : FVec Ideal S8 .f32) : FVec Ideal S8x2x4x4096x1 .f32 :=
  broadcastInDim S8x2x4x4096x1 ![1, 2, 3, 4] bcast_S2x4x1x1_S8x2x4x4096x1_1_2_3_4 (shapeCast _ S shapeCasts_S8_S2x4x1x1)

def joined (C : FVec Ideal S8x2x4x4096x256 .f32) (L : FVec Ideal S8x2x4x4096x4096 .f32) (S : FVec Ideal S8x2x4x4096x1 .f32) : FVec Ideal S8x2x4x4096x4353 .f32 :=
  concatenate S8x2x4x4096x4353 4 [⟨S8x2x4x4096x256, C⟩, ⟨S8x2x4x4096x4096, L⟩, ⟨S8x2x4x4096x1, S⟩] concatenates_S8x2x4x4096x256_S8x2x4x4096x4096_S8x2x4x4096x1_S8x2x4x4096x4353_d4

def maxR (X : FVec Ideal S8x2x4x4096x4353 .f32) : FVec Ideal S8x2x4x4096 .f32 :=
  Host.reduce FloatOps.maximumf X (constant S_ .f32 0xFF800000#32) reducesTo_S8x2x4x4096x4353_S8x2x4x4096_d4 h_S_

def subR (X : FVec Ideal S8x2x4x4096x4353 .f32) (M : FVec Ideal S8x2x4x4096 .f32) : FVec Ideal S8x2x4x4096x4353 .f32 :=
  Host.exp (subf X (broadcastInDim S8x2x4x4096x4353 ![0, 1, 2, 3, 4] bcast_S8x2x4x4096x1_S8x2x4x4096x4353_0_1_2_3_4 (broadcastInDim S8x2x4x4096x1 ![0, 1, 2, 3] bcast_S8x2x4x4096_S8x2x4x4096x1_0_1_2_3 (maximumf (broadcastInDim S8x2x4x4096 ![] bcast_S_S8x2x4x4096 (constant S_ .f32 0xFF800000#32)) M))))

def normR (X : FVec Ideal S8x2x4x4096x4353 .f32) : FVec Ideal S8x2x4x4096x4353 .f32 :=
  Host.divf X (broadcastInDim S8x2x4x4096x4353 ![0, 1, 2, 3, 4] bcast_S8x2x4x4096x1_S8x2x4x4096x4353_0_1_2_3_4 (broadcastInDim S8x2x4x4096x1 ![0, 1, 2, 3] bcast_S8x2x4x4096_S8x2x4x4096x1_0_1_2_3 (Host.reduceAdd X (constant S_ .f32 0x00000000#32) reducesTo_S8x2x4x4096x4353_S8x2x4x4096_d4 h_S_)))

def softR (X : FVec Ideal S8x2x4x4096x4353 .f32) : FVec Ideal S8x2x4x4096x4353 .f32 := normR (subR X (maxR X))

/-- The weighted values, heads side by side. -/
def outR (VC : FVec Ideal S8x256x2x64 .f32) (VL : FVec Ideal S8x4096x2x64 .f32) (P : FVec Ideal S8x2x4x4096x4353 .f32) : FVec Ideal S8x4096x512 .bf16 :=
  truncf .bf16 (shapeCast _ (addf
    (transpose S8x4096x2x4x64 [0, 4, 1, 3, 2] (Host.dotGeneral dot_S8x256x2x64_S8x2x4x4096x256_S8x2x64x4x4096_1_4_3_23_02_01 none VC (extractStridedSlice S8x2x4x4096x256 ![0, 0, 0, 0, 0] P slices_S8x2x4x4096x4353_S8x2x4x4096x256_0_0_0_0_0)) transposes_S8x2x64x4x4096_S8x4096x2x4x64_0_4_1_3_2)
    (transpose S8x4096x2x4x64 [0, 4, 1, 3, 2] (Host.dotGeneral dot_S8x4096x2x64_S8x2x4x4096x4096_S8x2x64x4x4096_1_4_3_23_02_01 none VL (extractStridedSlice S8x2x4x4096x4096 ![0, 0, 0, 0, 256] P slices_S8x2x4x4096x4353_S8x2x4x4096x4096_0_0_0_0_256)) transposes_S8x2x64x4x4096_S8x4096x2x4x64_0_4_1_3_2)) shapeCasts_S8x4096x2x4x64_S8x4096x512) bitsLt_bf16_f32

variable (m : (ℓ : Loc nD τ sig) → Buf (Elt Ideal) ℓ)

theorem staged (c : Dev nD) : Cert.Reference5Ideal.Value.res_main_v41 m c
    = outR (m ((c.tc : Thread nD τ).loc main_arg5)) (m ((c.tc : Thread nD τ).loc main_arg2)) (softR (joined (scoresC (m ((c.tc : Thread nD τ).loc main_arg0)) (m ((c.tc : Thread nD τ).loc main_arg4)))
        (maskL (allL (m ((c.tc : Thread nD τ).loc main_arg0)) (m ((c.tc : Thread nD τ).loc main_arg1)))) (sinkB (m ((c.tc : Thread nD τ).loc main_arg6))))) := by
  rfl

theorem scoresC_at (Q K) (b : Fin 8) (g : Fin 2) (r : Fin 4) (t : Fin 4096) (x : Fin 256) :
    (scoresC Q K (ix5 b g r t x) : EReal) = (∑ d : Fin 64, K (ix4 b x g d) * Q (ix4 b t ⟨g * 4 + r, by omega⟩ d)) * Ideal.ofBits .f32 0x3E000000#32 := by
  pointwise [scoresC]

theorem allL_at (Q K) (b : Fin 8) (g : Fin 2) (r : Fin 4) (t : Fin 4096) (x : Fin 4096) :
    (allL Q K (ix5 b g r t x) : EReal) = (∑ d : Fin 64, K (ix4 b x g d) * Q (ix4 b t ⟨g * 4 + r, by omega⟩ d)) * Ideal.ofBits .f32 0x3E000000#32 := by
  pointwise [allL]

theorem nearM_at (t x : Fin 4096) : nearM (ix2 t x) = IntOp.cmpi .sle (IntOp.absi (IntOp.subi (BitVec.ofNat 32 t) (BitVec.ofNat 32 x))) 128#32 := by
  pointwise [nearM]

theorem maskL_at (X) (b : Fin 8) (g : Fin 2) (r : Fin 4) (t : Fin 4096) (x : Fin 4096) :
    (maskL X (ix5 b g r t x) : EReal) = Scalar.select (nearM (ix2 t x)) (X (ix5 b g r t x)) (Ideal.ofBits .f32 0xFF800000#32) := by
  pointwise [maskL]
  rfl

theorem sinkB_at (S) (b : Fin 8) (g : Fin 2) (r : Fin 4) (t : Fin 4096) :
    (sinkB S (ix5 b g r t 0) : EReal) = S (ix1 ⟨g * 4 + r, by omega⟩) := by
  pointwise [sinkB]

theorem joined_at (C L S) (b : Fin 8) (g : Fin 2) (r : Fin 4) (t : Fin 4096) (x : Fin 4353) :
    (joined C L S (ix5 b g r t x) : EReal) = if h : (x : ℕ) < 256 then C (ix5 b g r t ⟨x, h⟩) else if h' : (x : ℕ) - 256 < 4096 then L (ix5 b g r t ⟨x - 256, h'⟩) else S (ix5 b g r t 0) := by
  pointwise [joined]
  by_cases h : (x : ℕ) < 256
  · rw [dif_pos h, dif_pos h]
  · rw [dif_neg h, dif_neg h]
    by_cases h' : (x : ℕ) - 256 < 4096
    · rw [dif_pos h', dif_pos h']
    · rw [dif_neg h', dif_neg h']
      exact congrArg (fun e => (S (ix5 b g r t e) : EReal)) (Subsingleton.elim _ _)

theorem maxR_at (X) (b : Fin 8) (g : Fin 2) (r : Fin 4) (t : Fin 4096) :
    (maxR X (ix4 b g r t) : EReal) = Finset.fold max (Ideal.ofBits .f32 0xFF800000#32) (fun x : Fin 4353 => (X (ix5 b g r t x) : EReal)) Finset.univ := by
  pointwise [maxR]

theorem subR_at (X M) (b : Fin 8) (g : Fin 2) (r : Fin 4) (t : Fin 4096) (x : Fin 4353) :
    (subR X M (ix5 b g r t x) : EReal) = Ideal.exp (X (ix5 b g r t x) - max (Ideal.ofBits .f32 0xFF800000#32) (M (ix4 b g r t))) := by
  pointwise [subR]

theorem normR_at (X) (b : Fin 8) (g : Fin 2) (r : Fin 4) (t : Fin 4096) (x : Fin 4353) :
    (normR X (ix5 b g r t x) : EReal) = Ideal.div (X (ix5 b g r t x)) (∑ x : Fin 4353, X (ix5 b g r t x)) := by
  pointwise [normR]

theorem outR_at (VC VL P) (b : Fin 8) (t : Fin 4096) (f : Fin 512) :
    (outR VC VL P (ix3 b t f) : EReal)
      = (∑ x : Fin 256, VC (ix4 b x ⟨f / 256, by omega⟩ ⟨f % 64, by omega⟩) * P (ix5 b ⟨f / 256, by omega⟩ ⟨f / 64 % 4, by omega⟩ t ⟨x, by omega⟩))
        + ∑ x : Fin 4096, VL (ix4 b x ⟨f / 256, by omega⟩ ⟨f % 64, by omega⟩) * P (ix5 b ⟨f / 256, by omega⟩ ⟨f / 64 % 4, by omega⟩ t ⟨256 + x, by omega⟩) := by
  pointwise [outR]

/-- The softmax of a row that reaches no plus infinity and holds some finite logit. -/
theorem softR_at (X : FVec Ideal S8x2x4x4096x4353 .f32) (b : Fin 8) (g : Fin 2) (r : Fin 4) (t : Fin 4096) (w : Fin 4353 → EReal) (hX : ∀ x, (X (ix5 b g r t x) : EReal) = w x)
    (hw : ∀ x, w x ≠ ⊤) (x₀ : Fin 4353) (h₀ : w x₀ ≠ ⊥) (x : Fin 4353) :
    (softR X (ix5 b g r t x) : EReal) = ((Sink.ew (w x) / ∑ y, Sink.ew (w y) : ℝ) : EReal) := by
  rw [← Sink.weight w hw x₀ h₀ x]
  unfold softR
  rw [normR_at, zero_add]
  simp only [subR_at, maxR_at, hX]

end Cert.SinkRef

end

end
-- ==== Proof.SinkMatch.lean ====
/- The reference's windowed attention is the array the kernel's call writes. -/
module

public import proofs.«01_k».proof.Proof.SinkFinal
public import proofs.«01_k».proof.Proof.SinkRef

@[expose] public section

set_option maxRecDepth 16384

noncomputable section

open Idealize.ShloMosaic Idealize.ShloMosaic.TcCoe Idealize.SL.Sem

namespace Cert.Sink

open Cert.Kernel5Ideal Cert.SinkRef

/-- Context logits, latent logits and the sink side by side. -/
def line (s : Fin 256 → EReal) (l : Fin 4096 → EReal) (z : EReal) (x : Fin 4353) : EReal :=
  if h : (x : ℕ) < 256 then s ⟨x, h⟩ else if h' : (x : ℕ) - 256 < 4096 then l ⟨x - 256, h'⟩ else z

theorem line_context (s l z) (x : Fin 256) : line s l z ⟨x, by omega⟩ = s x := dif_pos x.isLt

theorem line_latent (s l z) (x : Fin 4096) : line s l z ⟨256 + x, by omega⟩ = l x := by
  unfold line
  rw [dif_neg (by show ¬ 256 + (x : ℕ) < 256; omega), dif_pos (by show 256 + (x : ℕ) - 256 < 4096; omega)]
  exact congrArg l (Fin.ext (by show 256 + (x : ℕ) - 256 = x; omega))

theorem line_sink (s l z) : line s l z ⟨4352, by omega⟩ = z := by
  unfold line
  rw [dif_neg (by show ¬ 4352 < 256; omega), dif_neg (by show ¬ 4352 - 256 < 4096; omega)]

theorem line_sum (s : Fin 256 → EReal) (l : Fin 4096 → EReal) (z : EReal) :
    ∑ y : Fin 4353, ew (line s l z y) = (∑ y, ew (s y)) + (∑ y, ew (l y)) + ew z := by
  refine (split (a := 256) (b := 4096) (line s l z)).trans ?_
  refine congrArg₂ (· + ·) (congrArg₂ (· + ·) (Finset.sum_congr rfl fun x _ => congrArg ew (line_context s l z x)) (Finset.sum_congr rfl fun x _ => congrArg ew (line_latent s l z x)))
    (congrArg ew (line_sink s l z))

theorem line_ne_top (s : Fin 256 → EReal) (l : Fin 4096 → EReal) (z : EReal) (hs : ∀ x, s x ≠ ⊤) (hl : ∀ x, l x ≠ ⊤) (hz : z ≠ ⊤) (x : Fin 4353) : line s l z x ≠ ⊤ := by
  unfold line
  split
  · exact hs _
  · split
    · exact hl _
    · exact hz

theorem flip_score (q k : Fin 64 → EReal) : (∑ d, k d * q d) * Ideal.ofBits .f32 0x3E000000#32 = score q k := by
  rw [eighth]
  exact congrArg (· * _) (Finset.sum_congr rfl fun d _ => mul_comm _ _)

/-- The reference's logits of one head and query. -/
theorem joined_row (q : FVec Ideal S8x4096x8x64 .f32) (k : FVec Ideal S8x4096x2x64 .f32) (kc : FVec Ideal S8x256x2x64 .f32) (sink : FVec Ideal S8 .f32)
    (b : Fin 8) (g : Fin 2) (r : Fin 4) (t : Fin 4096) (h : Fin 8) (hh : (⟨g * 4 + r, by omega⟩ : Fin 8) = h) (x : Fin 4353) :
    (joined (scoresC q kc) (maskL (allL q k)) (sinkB sink) (ix5 b g r t x) : EReal)
      = line (fun x : Fin 256 => score (fun d => q (ix4 b t h d)) fun d => kc (ix4 b x g d))
        (fun x : Fin 4096 => if (t : ℕ) ≤ x + 128 ∧ (x : ℕ) ≤ t + 128 then score (fun d => q (ix4 b t h d)) fun d => k (ix4 b x g d) else ⊥) (sink (ix1 h)) x := by
  subst hh
  rw [joined_at]
  unfold line
  by_cases h0 : (x : ℕ) < 256
  · rw [dif_pos h0, dif_pos h0, scoresC_at]
    exact flip_score (fun d => q (ix4 b t _ d)) fun d => kc (ix4 b _ g d)
  · rw [dif_neg h0, dif_neg h0]
    by_cases h1 : (x : ℕ) - 256 < 4096
    · rw [dif_pos h1, dif_pos h1, maskL_at, nearM_at, allL_at, near _ _ (by omega) (by show (x : ℕ) - 256 < 5000; omega), Row.negInf]
      have e := flip_score (fun d => q (ix4 b t ⟨g * 4 + r, by omega⟩ d)) fun d => k (ix4 b ⟨(x : ℕ) - 256, h1⟩ g d)
      by_cases hn : (t : ℕ) ≤ (x : ℕ) - 256 + 128 ∧ (x : ℕ) - 256 ≤ t + 128
      · rw [if_pos hn]
        exact e.trans (if_pos hn).symm
      · rw [if_neg hn]
        exact (if_neg hn).symm
    · rw [dif_neg h1, dif_neg h1, sinkB_at]

theorem matched (q : FVec Ideal S8x4096x8x64 .f32) (k v : FVec Ideal S8x4096x2x64 .f32) (kc vc : FVec Ideal S8x256x2x64 .f32) (sink : FVec Ideal S8 .f32)
    (hq : AllReal q) (hk : AllReal k) (hkc : AllReal kc) (hs : AllReal sink) (b : Fin 8) (t : Fin 4096) (f : Fin 512) :
    (outR vc v (softR (joined (scoresC q kc) (maskL (allL q k)) (sinkB sink))) (ix3 b t f) : EReal)
      = att q k v kc vc sink b t ⟨f / 64, by omega⟩ ⟨f % 64, by omega⟩ := by
  have hg : (⟨(f : ℕ) / 64 / 4, by omega⟩ : Fin 2) = ⟨(f : ℕ) / 256, by omega⟩ := Fin.ext (by show (f : ℕ) / 64 / 4 = f / 256; omega)
  have hh : (⟨(f : ℕ) / 256 * 4 + (f : ℕ) / 64 % 4, by omega⟩ : Fin 8) = ⟨(f : ℕ) / 64, by omega⟩ := Fin.ext (by show (f : ℕ) / 256 * 4 + (f : ℕ) / 64 % 4 = f / 64; omega)
  unfold att
  dsimp only
  rw [outR_at, hg]
  obtain ⟨ζ, hζ⟩ := hs (ix1 ⟨(f : ℕ) / 64, by omega⟩)
  have hw := fun x => softR_at _ b ⟨(f : ℕ) / 256, by omega⟩ ⟨(f : ℕ) / 64 % 4, by omega⟩ t _ (joined_row q k kc sink b ⟨(f : ℕ) / 256, by omega⟩ ⟨(f : ℕ) / 64 % 4, by omega⟩ t ⟨(f : ℕ) / 64, by omega⟩ hh)
    (line_ne_top _ _ _ (fun x => score_ne_top _ _ (fun d => hq _) fun d => hkc _) (fun x => by
      split
      · exact score_ne_top _ _ (fun d => hq _) fun d => hk _
      · exact bot_ne_top) (by rw [hζ]; exact EReal.coe_ne_top ζ)) ⟨4352, by omega⟩ (by rw [line_sink, hζ]; exact EReal.coe_ne_bot ζ) x
  simp only [line_sum] at hw
  unfold row
  refine congrArg₂ (· + ·) (Finset.sum_congr rfl fun x _ => ?_) (Finset.sum_congr rfl fun x _ => ?_)
  · rw [hw, line_context]
  · rw [hw, line_latent]

theorem reference_eq (m' : (ℓ : Loc Cert.Reference5Ideal.nD Cert.Reference5Ideal.τ Cert.Reference5Ideal.sig) → Buf (Elt Ideal) ℓ) (c : Dev Cert.Reference5Ideal.nD)
    (q : FVec Ideal S8x4096x8x64 .f32) (k v : FVec Ideal S8x4096x2x64 .f32) (kc vc : FVec Ideal S8x256x2x64 .f32) (sink : FVec Ideal S8 .f32)
    (h0 : m' ((c.tc : Thread Cert.Reference5Ideal.nD Cert.Reference5Ideal.τ).loc Cert.Reference5Ideal.main_arg0) = q)
    (h1 : m' ((c.tc : Thread Cert.Reference5Ideal.nD Cert.Reference5Ideal.τ).loc Cert.Reference5Ideal.main_arg1) = k)
    (h2 : m' ((c.tc : Thread Cert.Reference5Ideal.nD Cert.Reference5Ideal.τ).loc Cert.Reference5Ideal.main_arg2) = v)
    (h4 : m' ((c.tc : Thread Cert.Reference5Ideal.nD Cert.Reference5Ideal.τ).loc Cert.Reference5Ideal.main_arg4) = kc)
    (h5 : m' ((c.tc : Thread Cert.Reference5Ideal.nD Cert.Reference5Ideal.τ).loc Cert.Reference5Ideal.main_arg5) = vc)
    (h6 : m' ((c.tc : Thread Cert.Reference5Ideal.nD Cert.Reference5Ideal.τ).loc Cert.Reference5Ideal.main_arg6) = sink)
    (hq : AllReal q) (hk : AllReal k) (hkc : AllReal kc) (hs : AllReal sink) :
    Cert.Reference5Ideal.Value.res_main_v41 m' c = G q k v kc vc sink := by
  subst h0 h1 h2 h4 h5 h6
  rw [staged]
  funext y
  idx_vars y
  exact matched _ _ _ _ _ _ hq hk hkc hs _ _ _

end Cert.Sink

end

end
-- ==== Proof.SinkPre.lean ====
/- What the windowed attention's precondition says: every latent query, key, context key and sink entry is a real number. -/
module

public import proofs.«01_k».proof.Proof.Gen.Pre_finite5
public import proofs.«01_k».proof.Proof.Pre

@[expose] public section

set_option maxRecDepth 16384

noncomputable section

open Idealize.ShloMosaic

namespace Cert.SinkPre

open Cert.Pre_finite5 Cert.Pre_finite5.Gen Cert.MlaPre

theorem facts_of (q : FVec Ideal S8x4096x8x64 .f32) (k v : FVec Ideal S8x4096x2x64 .f32) (qc : FVec Ideal S8x256x8x64 .f32) (kc vc : FVec Ideal S8x256x2x64 .f32) (sink : FVec Ideal S8 .f32)
    (i : S_.Idx) (h : fn (F := Ideal) q k v qc kc vc sink i = 1#1) :
    (∀ i, ∃ r : ℝ, q i = r) ∧ (∀ i, ∃ r : ℝ, k i = r) ∧ (∀ i, ∃ r : ℝ, kc i = r) ∧ (∀ i, ∃ r : ℝ, sink i = r) := by
  dsimp only [fn, fn_part1] at h
  obtain ⟨h, h4⟩ := and_one _ _ h
  obtain ⟨h, h3⟩ := and_one _ _ h
  obtain ⟨h1, h2⟩ := and_one _ _ h
  haveI : Subsingleton S_.Idx := ⟨fun a b => funext fun d => d.elim0⟩
  exact ⟨fun j => real_of_lt _ (Host.reduce_andi_all _ _ _ _ i h1 j), fun j => real_of_lt _ (Host.reduce_andi_all _ _ _ _ i h2 j),
    fun j => real_of_lt _ (Host.reduce_andi_all _ _ _ _ i h3 j), fun j => real_of_lt _ (Host.reduce_andi_all _ _ _ _ i h4 j)⟩

end Cert.SinkPre

end

end
-- ==== Proof.lean ====
module

public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite5
public import proofs.«01_k».proof.Proof.Match
public import proofs.«01_k».proof.Proof.RouteMatch
public import proofs.«01_k».proof.Proof.Modulation
public import proofs.«01_k».proof.Proof.Residual
public import proofs.«01_k».proof.Proof.Pre
public import proofs.«01_k».proof.Proof.SinkMatch
public import proofs.«01_k».proof.Proof.SinkPre
public import Idealize.ShloMosaic.Lib.Claim
public import Idealize.ShloMosaic.Adequacy
public import Idealize.ShloMosaic.Init

@[expose] public section

noncomputable section

namespace Cert.Proof

open Idealize.ShloMosaic Idealize.SL.Sem

theorem reference_runs : Cert.quiescent_ReferenceIdeal := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

theorem algebraic : Cert.algebraic_KernelIdeal_ReferenceIdeal_pre_finite := by
  pair_intro
  · run_from Cert.KernelIdeal.Value.run_blocks m g
  · run_from Cert.ReferenceIdeal.Value.run m' g'
    obtain ⟨hq, hk, hqc, hkc⟩ := Cert.MlaPre.facts_of _ _ _ _ _ _ (fun d => d.elim0) (congrFun (hpre c) _)
    obtain ⟨a0, a1, a2, a3, a4, a5⟩ := hagree c
    exact (Cert.Mla.reference_eq m' c _ _ _ _ _ _ a0 a1 a2 a3 a4 a5).trans
      (Cert.Mla.final m c hqc hq hkc hk).symm

/-- The routing call's body table has one text at both namespaces. The same holds of the modulation's, the gated residual's and the windowed attention's below. -/
theorem route_bodies : Cert.Kernel2.defs₀ (F := Bits) = Cert.Kernel2Ideal.defs₀ (F := Bits) := by
  unfold Cert.Kernel2.defs₀ Cert.Kernel2Ideal.defs₀
  refine congrArg Defs.onTc ?_
  funext l x
  obtain ⟨_ | l, hl⟩ := l
  · obtain ⟨t, s⟩ := x
    rfl
  · exact absurd hl (by omega)

theorem route_defs : Cert.Kernel2.defs (F := Bits) = Cert.Kernel2Ideal.defs (F := Bits) :=
  congrArg (Pipeline.defs Cert.Kernel2Ideal.pcfgs) route_bodies

/-- So its run at words is the run written once over any float values. -/
theorem route_runs : Cert.quiescent_Kernel2 := fun m ρ _ => by
  rw [route_defs]
  exact Cert.Kernel2Ideal.Gen.frame (F := Bits) m ρ

theorem reference2_runs : Cert.quiescent_Reference2Ideal := fun m g _ =>
  (θ_run (Cert.Reference2Ideal.defs (F := Ideal)) _ _).mono
    (fun r h => ⟨fun c => (h c).2.2.2, sem_eq_zero_of_no_sems (by decide) r.2⟩)
    (Cert.Reference2Ideal.Value.run (F := Ideal) m g)

theorem algebraic2 : Cert.algebraic_Kernel2Ideal_Reference2Ideal := by
  pair_intro
  · run_from Cert.Kernel2Ideal.Value.run_blocks m g
  · run_from Cert.Reference2Ideal.Value.run m' g'
    · obtain ⟨-, -, -, -, a4, a5, a6, a7, -, -, -⟩ := hagree c
      refine Eq.trans ?_ (Cert.Route.final_H m c).symm
      exact Cert.Route.resid_eq _ _ _ _ _ _ _ _ _ _ _ _ _ _ _ _ _ _ _ _ rfl rfl rfl rfl a4 a5 a6 a7 rfl
    · obtain ⟨a0, a1, a2, a3, a4, a5, a6, a7, a8, a9, a10⟩ := hagree c
      exact (Cert.Route.reference_eq _ _ _ _ _ _ _ _ _ _ _ m' c a0 a1 a2 a3 a4 a5 a6 a7 a8 a9 a10).1.trans (Cert.Route.final_P m c).symm
    · obtain ⟨a0, a1, a2, a3, a4, a5, a6, a7, a8, a9, a10⟩ := hagree c
      exact (Cert.Route.reference_eq _ _ _ _ _ _ _ _ _ _ _ m' c a0 a1 a2 a3 a4 a5 a6 a7 a8 a9 a10).2.trans (Cert.Route.final_Q m c).symm

theorem modulation_bodies : Cert.Kernel3.defs₀ (F := Bits) = Cert.Kernel3Ideal.defs₀ (F := Bits) := by
  unfold Cert.Kernel3.defs₀ Cert.Kernel3Ideal.defs₀
  refine congrArg Defs.onTc ?_
  funext l x
  obtain ⟨_ | l, hl⟩ := l
  · obtain ⟨t, s⟩ := x
    rfl
  · exact absurd hl (by omega)

theorem modulation_defs : Cert.Kernel3.defs (F := Bits) = Cert.Kernel3Ideal.defs (F := Bits) :=
  congrArg (Pipeline.defs Cert.Kernel3Ideal.pcfgs) modulation_bodies

theorem modulation_runs : Cert.quiescent_Kernel3 := fun m ρ _ => by
  rw [modulation_defs]
  exact Cert.Kernel3Ideal.Gen.frame (F := Bits) m ρ

theorem reference3_runs : Cert.quiescent_Reference3Ideal := fun m g _ =>
  (θ_run (Cert.Reference3Ideal.defs (F := Ideal)) _ _).mono
    (fun r h => ⟨fun c => (h c).2, sem_eq_zero_of_no_sems (by decide) r.2⟩)
    (Cert.Reference3Ideal.Value.run (F := Ideal) m g)

theorem algebraic3 : Cert.algebraic_Kernel3Ideal_Reference3Ideal := by
  pair_intro
  · run_from Cert.Kernel3Ideal.Value.run_blocks m g
  · run_from Cert.Reference3Ideal.Value.run m' g'
    refine Eq.trans ?_ (Cert.Modulation.final m c).symm
    exact Cert.ModulationRef.eq _ _ _ _ (hagree c).2.2

theorem residual_bodies : Cert.Kernel4.defs₀ (F := Bits) = Cert.Kernel4Ideal.defs₀ (F := Bits) := by
  unfold Cert.Kernel4.defs₀ Cert.Kernel4Ideal.defs₀
  refine congrArg Defs.onTc ?_
  funext l x
  obtain ⟨_ | l, hl⟩ := l
  · obtain ⟨t, s⟩ := x
    rfl
  · exact absurd hl (by omega)

theorem residual_defs : Cert.Kernel4.defs (F := Bits) = Cert.Kernel4Ideal.defs (F := Bits) :=
  congrArg (Pipeline.defs Cert.Kernel4Ideal.pcfgs) residual_bodies

theorem residual_runs : Cert.quiescent_Kernel4 := fun m ρ _ => by
  rw [residual_defs]
  exact Cert.Kernel4Ideal.Gen.frame (F := Bits) m ρ

theorem reference4_runs : Cert.quiescent_Reference4Ideal := fun m g _ =>
  (θ_run (Cert.Reference4Ideal.defs (F := Ideal)) _ _).mono
    (fun r h => ⟨fun c => (h c).2, sem_eq_zero_of_no_sems (by decide) r.2⟩)
    (Cert.Reference4Ideal.Value.run (F := Ideal) m g)

theorem algebraic4 : Cert.algebraic_Kernel4Ideal_Reference4Ideal := by
  pair_intro
  · run_from Cert.Kernel4Ideal.Value.run_blocks m g
  · run_from Cert.Reference4Ideal.Value.run m' g'
    refine Eq.trans ?_ (Cert.Residual.final m c).symm
    exact Cert.ResidualRef.eq _ _ _

theorem window_bodies : Cert.Kernel5.defs₀ (F := Bits) = Cert.Kernel5Ideal.defs₀ (F := Bits) := by
  unfold Cert.Kernel5.defs₀ Cert.Kernel5Ideal.defs₀
  refine congrArg Defs.onTc ?_
  funext l x
  obtain ⟨_ | l, hl⟩ := l
  · obtain ⟨t, s⟩ := x
    rfl
  · exact absurd hl (by omega)

theorem window_defs : Cert.Kernel5.defs (F := Bits) = Cert.Kernel5Ideal.defs (F := Bits) :=
  congrArg (Pipeline.defs Cert.Kernel5Ideal.pcfgs) window_bodies

/-- The windowed attention's host code calls the padding four times; each call has one text at both namespaces. -/
theorem window_pad0 : Cert.Kernel5.fn_pad.body (F := Bits) (.of Cert.Kernel5.main_v3) (.of Cert.Kernel5.main_c) Cert.Kernel5.main_call0 = Cert.Kernel5Ideal.fn_pad.body (F := Bits) (.of Cert.Kernel5Ideal.main_v3) (.of Cert.Kernel5Ideal.main_c) Cert.Kernel5Ideal.main_call0 := by
  unfold Cert.Kernel5.fn_pad.body Cert.Kernel5Ideal.fn_pad.body
  rfl

theorem window_pad1 : Cert.Kernel5.fn_pad_0.body (F := Bits) (.of Cert.Kernel5.main_v9) (.of Cert.Kernel5.main_c_0) Cert.Kernel5.main_call1 = Cert.Kernel5Ideal.fn_pad_0.body (F := Bits) (.of Cert.Kernel5Ideal.main_v9) (.of Cert.Kernel5Ideal.main_c_0) Cert.Kernel5Ideal.main_call1 := by
  unfold Cert.Kernel5.fn_pad_0.body Cert.Kernel5Ideal.fn_pad_0.body
  rfl

theorem window_pad2 : Cert.Kernel5.fn_pad_0.body (F := Bits) (.of Cert.Kernel5.main_v7) (.of Cert.Kernel5.main_c_1) Cert.Kernel5.main_call2 = Cert.Kernel5Ideal.fn_pad_0.body (F := Bits) (.of Cert.Kernel5Ideal.main_v7) (.of Cert.Kernel5Ideal.main_c_1) Cert.Kernel5Ideal.main_call2 := by
  unfold Cert.Kernel5.fn_pad_0.body Cert.Kernel5Ideal.fn_pad_0.body
  rfl

theorem window_pad3 : Cert.Kernel5.fn_pad_1.body (F := Bits) (.of Cert.Kernel5.main_v7) (.of Cert.Kernel5.main_c_2) Cert.Kernel5.main_call3 = Cert.Kernel5Ideal.fn_pad_1.body (F := Bits) (.of Cert.Kernel5Ideal.main_v7) (.of Cert.Kernel5Ideal.main_c_2) Cert.Kernel5Ideal.main_call3 := by
  unfold Cert.Kernel5.fn_pad_1.body Cert.Kernel5Ideal.fn_pad_1.body
  rfl

set_option maxHeartbeats 4000000 in
theorem window_main : Cert.Kernel5.main (F := Bits) = Cert.Kernel5Ideal.main (F := Bits) := by
  unfold Cert.Kernel5.main Cert.Kernel5Ideal.main
  rw [window_pad0, window_pad1, window_pad2, window_pad3]
  rfl

theorem window_runs : Cert.quiescent_Kernel5 := fun m ρ _ => by
  rw [window_defs, window_main]
  exact Cert.Kernel5Ideal.Gen.frame (F := Bits) m ρ

theorem reference5_runs : Cert.quiescent_Reference5Ideal := fun m g _ =>
  (θ_run (Cert.Reference5Ideal.defs (F := Ideal)) _ _).mono
    (fun r h => ⟨fun c => (h c).2, sem_eq_zero_of_no_sems (by decide) r.2⟩)
    (Cert.Reference5Ideal.Value.run (F := Ideal) m g)

theorem algebraic5 : Cert.algebraic_Kernel5Ideal_Reference5Ideal_pre_finite5 := by
  pair_intro
  · run_from Cert.Kernel5Ideal.Value.run_blocks m g
  · run_from Cert.Reference5Ideal.Value.run m' g'
    obtain ⟨hq, hk, hkc, hs⟩ := Cert.SinkPre.facts_of _ _ _ _ _ _ _ (fun d => d.elim0) (congrFun (hpre c) _)
    obtain ⟨a0, a1, a2, a3, a4, a5, a6⟩ := hagree c
    exact (Cert.Sink.reference_eq m' c _ _ _ _ _ _ a0 a1 a2 a4 a5 a6 hq hk hkc hs).trans
      (Cert.Sink.final m c hq hk hkc hs).symm

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite5.Gen.facts,
  fun m ρ _ => Cert.Kernel.Gen.frame m ρ,
  fun m ρ _ => Cert.KernelIdeal.Gen.frame m ρ,
  fun m ρ _ => Cert.KernelIdeal.Gen.frame m ρ,
  reference_runs,
  fun m g _ => reference_runs m g trivial,
  route_runs,
  fun m ρ _ => Cert.Kernel2Ideal.Gen.frame m ρ,
  reference2_runs,
  modulation_runs,
  fun m ρ _ => Cert.Kernel3Ideal.Gen.frame m ρ,
  reference3_runs,
  residual_runs,
  fun m ρ _ => Cert.Kernel4Ideal.Gen.frame m ρ,
  reference4_runs,
  window_runs,
  fun m ρ _ => Cert.Kernel5Ideal.Gen.frame m ρ,
  fun m ρ _ => Cert.Kernel5Ideal.Gen.frame m ρ,
  reference5_runs,
  fun m g _ => reference5_runs m g trivial,
  IdealRules.named_const.statement Cert.KernelIdeal.κ "qscale" .f32 0x3E16C740#32 _ rfl,
  algebraic,
  trivial,
  algebraic2,
  trivial,
  algebraic3,
  trivial,
  algebraic4,
  trivial,
  algebraic5⟩

end Cert.Proof

end

end
